-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![2, 2, 4, 128, 2048]⟩ ⟨5, ![8, 2, 4, 128, 2048]⟩ (Layout.meshBlock [2, 4, 4] ![[1], [], [], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2x4x128x2048 : Shape := ⟨5, ![2, 2, 4, 128, 2048]⟩
abbrev S1x2048 : Shape := ⟨2, ![1, 2048]⟩
abbrev S3x128x2048 : Shape := ⟨3, ![3, 128, 2048]⟩
abbrev S128x2048 : Shape := ⟨2, ![128, 2048]⟩
abbrev S3x2 : Shape := ⟨2, ![3, 2]⟩
abbrev S4x2 : Shape := ⟨2, ![4, 2]⟩
abbrev S4 : Shape := ⟨1, ![4]⟩
abbrev S_ : Shape := ⟨0, ![]⟩
abbrev S1 : Shape := ⟨1, ![1]⟩
abbrev S1x128x2048 : Shape := ⟨3, ![1, 128, 2048]⟩
abbrev S1x1x1x128x2048 : Shape := ⟨5, ![1, 1, 1, 128, 2048]⟩
abbrev S1x1 : Shape := ⟨2, ![1, 1]⟩
abbrev S1x64x2048 : Shape := ⟨3, ![1, 64, 2048]⟩
abbrev S64x2048 : Shape := ⟨2, ![64, 2048]⟩
abbrev S1x1x1x64x2048 : Shape := ⟨5, ![1, 1, 1, 64, 2048]⟩
abbrev S64 : Shape := ⟨1, ![64]⟩
abbrev S64x1 : Shape := ⟨2, ![64, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x2x4x128x2048, .f32⟩
  | .hbm, ⟨1, _⟩ => ⟨S2x2x4x128x2048, .f32⟩
  | .hbm, ⟨2, _⟩ => ⟨S1x2048, .f32⟩
  | .hbm, ⟨3, _⟩ => ⟨S2x2x4x128x2048, .f32⟩
  | .local _ .vmem, ⟨0, _⟩ => ⟨S1x2048, .f32⟩
  | .local _ .vmem, ⟨1, _⟩ => ⟨S2x2x4x128x2048, .f32⟩
  | .local _ .vmem, ⟨2, _⟩ => ⟨S3x128x2048, .f32⟩
  | .local _ .vmem, ⟨3, _⟩ => ⟨S3x128x2048, .f32⟩
  | .local _ .vmem, ⟨4, _⟩ => ⟨S128x2048, .f32⟩
  | _, _ => ⟨S2x2x4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  (ofTc nBuf bufTy 1 94 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v58 : BitVec 32 := Scalar.muli v2 c16_i32_33
  let v59 : BitVec 32 := Scalar.addi c0_i32_34 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v20 : BitVec 32 := Scalar.addi v5 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_35 : BitVec 32 := 4#32
  let v60 : BitVec 32 := Scalar.muli v31 c4_i32_35
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v62 : BitVec 32 := Scalar.muli v8 c1_i32_36
  let v63 : BitVec 32 := Scalar.addi v61 v62
  v63.toNat
def k0_dev2 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v64 : BitVec 32 := Scalar.muli v2 c16_i32_38
  let v65 : BitVec 32 := Scalar.addi c0_i32_39 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_40 : BitVec 32 := 4#32
  let v66 : BitVec 32 := Scalar.muli v19 c4_i32_40
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v68 : BitVec 32 := Scalar.muli v8 c1_i32_41
  let v69 : BitVec 32 := Scalar.addi v67 v68
  v69.toNat
def k0_dev3 (d0 : Dev nD) : Nat :=
  let c0_i32_44 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_43 : BitVec 32 := 16#32
  let v70 : BitVec 32 := Scalar.muli v32 c16_i32_43
  let v71 : BitVec 32 := Scalar.addi c0_i32_44 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v72 : BitVec 32 := Scalar.muli v5 c4_i32_45
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v74 : BitVec 32 := Scalar.muli v8 c1_i32_46
  let v75 : BitVec 32 := Scalar.addi v73 v74
  v75.toNat
def k0_dev4 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v76 : BitVec 32 := Scalar.muli v2 c16_i32_48
  let v77 : BitVec 32 := Scalar.addi c0_i32_49 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v78 : BitVec 32 := Scalar.muli v5 c4_i32_50
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_51 : BitVec 32 := 1#32
  let v80 : BitVec 32 := Scalar.muli v45 c1_i32_51
  let v81 : BitVec 32 := Scalar.addi v79 v80
  v81.toNat
def k0_off1 (d0 : Dev nD) (c0_i32_54 : BitVec 32) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v82 : BitVec 32 := Scalar.subi v5 c1_i32_53
  let v83 : BitVec 32 := Scalar.subi v82 c0_i32_54
  let c4_i32_55 : BitVec 32 := 4#32
  let c0_i32_56 : BitVec 32 := 0#32
  let v84 : BitVec 1 := Scalar.cmpi .eq c4_i32_55 c0_i32_56
  let c1_i32_57 : BitVec 32 := 1#32
  let v85 : BitVec 32 := Scalar.select v84 c1_i32_57 c4_i32_55
  let v86 : BitVec 32 := Scalar.remsi v83 v85
  let c0_i32_59 : BitVec 32 := 0#32
  let v88 : BitVec 1 := Scalar.cmpi .slt v86 c0_i32_59
  let c0_i32_60 : BitVec 32 := 0#32
  let v89 : BitVec 1 := Scalar.cmpi .slt v85 c0_i32_60
  let v90 : BitVec 1 := Scalar.xori v88 v89
  let c0_i32_58 : BitVec 32 := 0#32
  let v87 : BitVec 1 := Scalar.cmpi .ne v86 c0_i32_58
  let v91 : BitVec 1 := Scalar.andi v90 v87
  let v92 : BitVec 32 := Scalar.addi v86 v85
  let v93 : BitVec 32 := Scalar.select v91 v92 v86
  let c0_i32_65 : BitVec 32 := 0#32
  let c0_i32_66 : BitVec 32 := 0#32
  ![v2.toNat, v42.toNat, v93.toNat, 0, 0]
def k0_off2 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c0_i32_95 : BitVec 32 := 0#32
  let c0_i32_96 : BitVec 32 := 0#32
  ![v2.toNat, v42.toNat, v56.toNat, 0, 0]
def k0_off3 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_108 : BitVec 32 := 0#32
  let c0_i32_109 : BitVec 32 := 0#32
  ![v2.toNat, v42.toNat, v5.toNat, 0, 0]
def k0_dev5 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v140 : BitVec 32 := Scalar.muli v2 c16_i32_102
  let v141 : BitVec 32 := Scalar.addi c0_i32_103 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_104 : BitVec 32 := 4#32
  let v142 : BitVec 32 := Scalar.muli v19 c4_i32_104
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v144 : BitVec 32 := Scalar.muli v8 c1_i32_105
  let v145 : BitVec 32 := Scalar.addi v143 v144
  v145.toNat
def k0_off4 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c64_i32_120 : BitVec 32 := 64#32
  let c0_i32_121 : BitVec 32 := 0#32
  ![v2.toNat, v42.toNat, v5.toNat, 64, 0]
def k0_dev6 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v154 : BitVec 32 := Scalar.muli v2 c16_i32_115
  let v155 : BitVec 32 := Scalar.addi c0_i32_116 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_117 : BitVec 32 := 4#32
  let v156 : BitVec 32 := Scalar.muli v19 c4_i32_117
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v158 : BitVec 32 := Scalar.muli v8 c1_i32_118
  let v159 : BitVec 32 := Scalar.addi v157 v158
  v159.toNat
def k0_dev7 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v200 : BitVec 32 := Scalar.muli v2 c16_i32_165
  let v201 : BitVec 32 := Scalar.addi c0_i32_166 v200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_167 : BitVec 32 := 4#32
  let v202 : BitVec 32 := Scalar.muli v19 c4_i32_167
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v204 : BitVec 32 := Scalar.muli v8 c1_i32_168
  let v205 : BitVec 32 := Scalar.addi v203 v204
  v205.toNat
def k0_dev8 (d0 : Dev nD) : Nat :=
  let c0_i32_211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_210 : BitVec 32 := 16#32
  let v240 : BitVec 32 := Scalar.muli v2 c16_i32_210
  let v241 : BitVec 32 := Scalar.addi c0_i32_211 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_212 : BitVec 32 := 4#32
  let v242 : BitVec 32 := Scalar.muli v19 c4_i32_212
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v244 : BitVec 32 := Scalar.muli v8 c1_i32_213
  let v245 : BitVec 32 := Scalar.addi v243 v244
  v245.toNat
def k0_dev9 (d0 : Dev nD) : Nat :=
  let c0_i32_264 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_263 : BitVec 32 := 16#32
  let v286 : BitVec 32 := Scalar.muli v2 c16_i32_263
  let v287 : BitVec 32 := Scalar.addi c0_i32_264 v286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_265 : BitVec 32 := 4#32
  let v288 : BitVec 32 := Scalar.muli v19 c4_i32_265
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v290 : BitVec 32 := Scalar.muli v8 c1_i32_266
  let v291 : BitVec 32 := Scalar.addi v289 v290
  v291.toNat
def k0_dev10 (d0 : Dev nD) : Nat :=
  let c0_i32_312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_311 : BitVec 32 := 16#32
  let v326 : BitVec 32 := Scalar.muli v2 c16_i32_311
  let v327 : BitVec 32 := Scalar.addi c0_i32_312 v326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_313 : BitVec 32 := 4#32
  let v328 : BitVec 32 := Scalar.muli v19 c4_i32_313
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v330 : BitVec 32 := Scalar.muli v8 c1_i32_314
  let v331 : BitVec 32 := Scalar.addi v329 v330
  v331.toNat
def k0_off5 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v389 : Index := Scalar.indexCast v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v390 : Index := Scalar.indexCast v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let v391 : Index := Scalar.indexCast v56
  let c0_364 : Index := 0#32
  let c0_365 : Index := 0#32
  ![v389.toNat, v390.toNat, v391.toNat, 0, 0]
def k0_off6 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c0_i32_374 : BitVec 32 := 0#32
  let c0_i32_375 : BitVec 32 := 0#32
  ![v2.toNat, v42.toNat, v56.toNat, 0, 0]
def k0_dev11 (d0 : Dev nD) : Nat :=
  let c0_i32_371 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_370 : BitVec 32 := 16#32
  let v395 : BitVec 32 := Scalar.muli v2 c16_i32_370
  let v396 : BitVec 32 := Scalar.addi c0_i32_371 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_372 : BitVec 32 := 4#32
  let v397 : BitVec 32 := Scalar.muli v19 c4_i32_372
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v399 : BitVec 32 := Scalar.muli v8 c1_i32_373
  let v400 : BitVec 32 := Scalar.addi v398 v399
  v400.toNat
def k0_dev12 (d0 : Dev nD) : Nat :=
  let c0_i32_383 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_382 : BitVec 32 := 16#32
  let v409 : BitVec 32 := Scalar.muli v32 c16_i32_382
  let v410 : BitVec 32 := Scalar.addi c0_i32_383 v409
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_384 : BitVec 32 := 4#32
  let v411 : BitVec 32 := Scalar.muli v5 c4_i32_384
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v413 : BitVec 32 := Scalar.muli v8 c1_i32_385
  let v414 : BitVec 32 := Scalar.addi v412 v413
  v414.toNat
def k0_dev13 (d0 : Dev nD) : Nat :=
  let c0_i32_395 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_394 : BitVec 32 := 16#32
  let v423 : BitVec 32 := Scalar.muli v2 c16_i32_394
  let v424 : BitVec 32 := Scalar.addi c0_i32_395 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_396 : BitVec 32 := 4#32
  let v425 : BitVec 32 := Scalar.muli v5 c4_i32_396
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_397 : BitVec 32 := 1#32
  let v427 : BitVec 32 := Scalar.muli v45 c1_i32_397
  let v428 : BitVec 32 := Scalar.addi v426 v427
  v428.toNat
def k0_off7 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v476 : Index := Scalar.indexCast v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v477 : Index := Scalar.indexCast v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let v478 : Index := Scalar.indexCast v56
  let c64_440 : Index := 64#32
  let c0_441 : Index := 0#32
  ![v476.toNat, v477.toNat, v478.toNat, 64, 0]
def k0_off8 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c64_i32_450 : BitVec 32 := 64#32
  let c0_i32_451 : BitVec 32 := 0#32
  ![v2.toNat, v42.toNat, v56.toNat, 64, 0]
def k0_dev14 (d0 : Dev nD) : Nat :=
  let c0_i32_447 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_446 : BitVec 32 := 16#32
  let v482 : BitVec 32 := Scalar.muli v2 c16_i32_446
  let v483 : BitVec 32 := Scalar.addi c0_i32_447 v482
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_448 : BitVec 32 := 4#32
  let v484 : BitVec 32 := Scalar.muli v19 c4_i32_448
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v486 : BitVec 32 := Scalar.muli v8 c1_i32_449
  let v487 : BitVec 32 := Scalar.addi v485 v486
  v487.toNat
def k0_dev15 (d0 : Dev nD) : Nat :=
  let c0_i32_459 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_458 : BitVec 32 := 16#32
  let v496 : BitVec 32 := Scalar.muli v32 c16_i32_458
  let v497 : BitVec 32 := Scalar.addi c0_i32_459 v496
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_460 : BitVec 32 := 4#32
  let v498 : BitVec 32 := Scalar.muli v5 c4_i32_460
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v500 : BitVec 32 := Scalar.muli v8 c1_i32_461
  let v501 : BitVec 32 := Scalar.addi v499 v500
  v501.toNat
def k0_dev16 (d0 : Dev nD) : Nat :=
  let c0_i32_471 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_470 : BitVec 32 := 16#32
  let v510 : BitVec 32 := Scalar.muli v2 c16_i32_470
  let v511 : BitVec 32 := Scalar.addi c0_i32_471 v510
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_472 : BitVec 32 := 4#32
  let v512 : BitVec 32 := Scalar.muli v5 c4_i32_472
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_473 : BitVec 32 := 1#32
  let v514 : BitVec 32 := Scalar.muli v45 c1_i32_473
  let v515 : BitVec 32 := Scalar.addi v513 v514
  v515.toNat
def k0_off9 (d0 : Dev nD) (c0_i32_478 : BitVec 32) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v524 : BitVec 32 := Scalar.subi v5 c0_i32_478
  let c4_i32_479 : BitVec 32 := 4#32
  let c0_i32_480 : BitVec 32 := 0#32
  let v525 : BitVec 1 := Scalar.cmpi .eq c4_i32_479 c0_i32_480
  let c1_i32_481 : BitVec 32 := 1#32
  let v526 : BitVec 32 := Scalar.select v525 c1_i32_481 c4_i32_479
  let v527 : BitVec 32 := Scalar.remsi v524 v526
  let c0_i32_483 : BitVec 32 := 0#32
  let v529 : BitVec 1 := Scalar.cmpi .slt v527 c0_i32_483
  let c0_i32_484 : BitVec 32 := 0#32
  let v530 : BitVec 1 := Scalar.cmpi .slt v526 c0_i32_484
  let v531 : BitVec 1 := Scalar.xori v529 v530
  let c0_i32_482 : BitVec 32 := 0#32
  let v528 : BitVec 1 := Scalar.cmpi .ne v527 c0_i32_482
  let v532 : BitVec 1 := Scalar.andi v531 v528
  let v533 : BitVec 32 := Scalar.addi v527 v526
  let v534 : BitVec 32 := Scalar.select v532 v533 v527
  let c0_i32_514 : BitVec 32 := 0#32
  let c0_i32_515 : BitVec 32 := 0#32
  ![v2.toNat, v42.toNat, v534.toNat, 0, 0]
def k0_dev17 (d0 : Dev nD) : Nat :=
  let c0_i32_511 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_510 : BitVec 32 := 16#32
  let v553 : BitVec 32 := Scalar.muli v2 c16_i32_510
  let v554 : BitVec 32 := Scalar.addi c0_i32_511 v553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_512 : BitVec 32 := 4#32
  let v555 : BitVec 32 := Scalar.muli v19 c4_i32_512
  let v556 : BitVec 32 := Scalar.addi v554 v555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_513 : BitVec 32 := 1#32
  let v557 : BitVec 32 := Scalar.muli v8 c1_i32_513
  let v558 : BitVec 32 := Scalar.addi v556 v557
  v558.toNat
def k0_dev18 (d0 : Dev nD) : Nat :=
  let c0_i32_523 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_522 : BitVec 32 := 16#32
  let v567 : BitVec 32 := Scalar.muli v32 c16_i32_522
  let v568 : BitVec 32 := Scalar.addi c0_i32_523 v567
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_524 : BitVec 32 := 4#32
  let v569 : BitVec 32 := Scalar.muli v5 c4_i32_524
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525 : BitVec 32 := 1#32
  let v571 : BitVec 32 := Scalar.muli v8 c1_i32_525
  let v572 : BitVec 32 := Scalar.addi v570 v571
  v572.toNat
def k0_dev19 (d0 : Dev nD) : Nat :=
  let c0_i32_535 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_534 : BitVec 32 := 16#32
  let v581 : BitVec 32 := Scalar.muli v2 c16_i32_534
  let v582 : BitVec 32 := Scalar.addi c0_i32_535 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_536 : BitVec 32 := 4#32
  let v583 : BitVec 32 := Scalar.muli v5 c4_i32_536
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_537 : BitVec 32 := 1#32
  let v585 : BitVec 32 := Scalar.muli v45 c1_i32_537
  let v586 : BitVec 32 := Scalar.addi v584 v585
  v586.toNat
def k0_off10 (d0 : Dev nD) (c0_i32_478 : BitVec 32) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v524 : BitVec 32 := Scalar.subi v5 c0_i32_478
  let c4_i32_479 : BitVec 32 := 4#32
  let c0_i32_480 : BitVec 32 := 0#32
  let v525 : BitVec 1 := Scalar.cmpi .eq c4_i32_479 c0_i32_480
  let c1_i32_481 : BitVec 32 := 1#32
  let v526 : BitVec 32 := Scalar.select v525 c1_i32_481 c4_i32_479
  let v527 : BitVec 32 := Scalar.remsi v524 v526
  let c0_i32_483 : BitVec 32 := 0#32
  let v529 : BitVec 1 := Scalar.cmpi .slt v527 c0_i32_483
  let c0_i32_484 : BitVec 32 := 0#32
  let v530 : BitVec 1 := Scalar.cmpi .slt v526 c0_i32_484
  let v531 : BitVec 1 := Scalar.xori v529 v530
  let c0_i32_482 : BitVec 32 := 0#32
  let v528 : BitVec 1 := Scalar.cmpi .ne v527 c0_i32_482
  let v532 : BitVec 1 := Scalar.andi v531 v528
  let v533 : BitVec 32 := Scalar.addi v527 v526
  let v534 : BitVec 32 := Scalar.select v532 v533 v527
  let c64_i32_571 : BitVec 32 := 64#32
  let c0_i32_572 : BitVec 32 := 0#32
  ![v2.toNat, v42.toNat, v534.toNat, 64, 0]
def k0_dev20 (d0 : Dev nD) : Nat :=
  let c0_i32_568 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_567 : BitVec 32 := 16#32
  let v613 : BitVec 32 := Scalar.muli v2 c16_i32_567
  let v614 : BitVec 32 := Scalar.addi c0_i32_568 v613
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_569 : BitVec 32 := 4#32
  let v615 : BitVec 32 := Scalar.muli v19 c4_i32_569
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v617 : BitVec 32 := Scalar.muli v8 c1_i32_570
  let v618 : BitVec 32 := Scalar.addi v616 v617
  v618.toNat
def k0_dev21 (d0 : Dev nD) : Nat :=
  let c0_i32_580 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_579 : BitVec 32 := 16#32
  let v627 : BitVec 32 := Scalar.muli v32 c16_i32_579
  let v628 : BitVec 32 := Scalar.addi c0_i32_580 v627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_581 : BitVec 32 := 4#32
  let v629 : BitVec 32 := Scalar.muli v5 c4_i32_581
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_582 : BitVec 32 := 1#32
  let v631 : BitVec 32 := Scalar.muli v8 c1_i32_582
  let v632 : BitVec 32 := Scalar.addi v630 v631
  v632.toNat
def k0_dev22 (d0 : Dev nD) : Nat :=
  let c0_i32_592 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_591 : BitVec 32 := 16#32
  let v641 : BitVec 32 := Scalar.muli v2 c16_i32_591
  let v642 : BitVec 32 := Scalar.addi c0_i32_592 v641
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_593 : BitVec 32 := 4#32
  let v643 : BitVec 32 := Scalar.muli v5 c4_i32_593
  let v644 : BitVec 32 := Scalar.addi v642 v643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_594 : BitVec 32 := 1#32
  let v645 : BitVec 32 := Scalar.muli v45 c1_i32_594
  let v646 : BitVec 32 := Scalar.addi v644 v645
  v646.toNat
def k0_off11 (d0 : Dev nD) : Fin 5 → Nat :=
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c0_i32_628 : BitVec 32 := 0#32
  let c0_i32_629 : BitVec 32 := 0#32
  ![v32.toNat, v42.toNat, v56.toNat, 0, 0]
def k0_dev23 (d0 : Dev nD) : Nat :=
  let c0_i32_625 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_624 : BitVec 32 := 16#32
  let v673 : BitVec 32 := Scalar.muli v2 c16_i32_624
  let v674 : BitVec 32 := Scalar.addi c0_i32_625 v673
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_626 : BitVec 32 := 4#32
  let v675 : BitVec 32 := Scalar.muli v5 c4_i32_626
  let v676 : BitVec 32 := Scalar.addi v674 v675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_627 : BitVec 32 := 1#32
  let v677 : BitVec 32 := Scalar.muli v45 c1_i32_627
  let v678 : BitVec 32 := Scalar.addi v676 v677
  v678.toNat
def k0_off12 (d0 : Dev nD) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_653 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v705 : BitVec 32 := Scalar.subi c1_i32_653 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v46 : BitVec 32 := Scalar.addi v5 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c64_i32_662 : BitVec 32 := 64#32
  let c0_i32_663 : BitVec 32 := 0#32
  ![v2.toNat, v705.toNat, v56.toNat, 64, 0]
def k0_dev24 (d0 : Dev nD) : Nat :=
  let c0_i32_659 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_658 : BitVec 32 := 16#32
  let v706 : BitVec 32 := Scalar.muli v32 c16_i32_658
  let v707 : BitVec 32 := Scalar.addi c0_i32_659 v706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_660 : BitVec 32 := 4#32
  let v708 : BitVec 32 := Scalar.muli v5 c4_i32_660
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_661 : BitVec 32 := 1#32
  let v710 : BitVec 32 := Scalar.muli v8 c1_i32_661
  let v711 : BitVec 32 := Scalar.addi v709 v710
  v711.toNat
def k0_dev25 (d0 : Dev nD) : Nat :=
  let c0_i32_699 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_698 : BitVec 32 := 16#32
  let v749 : BitVec 32 := Scalar.muli v2 c16_i32_698
  let v750 : BitVec 32 := Scalar.addi c0_i32_699 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_700 : BitVec 32 := 4#32
  let v751 : BitVec 32 := Scalar.muli v19 c4_i32_700
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v753 : BitVec 32 := Scalar.muli v8 c1_i32_701
  let v754 : BitVec 32 := Scalar.addi v752 v753
  v754.toNat
def k0_dev26 (d0 : Dev nD) : Nat :=
  let c0_i32_711 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_710 : BitVec 32 := 16#32
  let v763 : BitVec 32 := Scalar.muli v32 c16_i32_710
  let v764 : BitVec 32 := Scalar.addi c0_i32_711 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_712 : BitVec 32 := 4#32
  let v765 : BitVec 32 := Scalar.muli v5 c4_i32_712
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_713 : BitVec 32 := 1#32
  let v767 : BitVec 32 := Scalar.muli v8 c1_i32_713
  let v768 : BitVec 32 := Scalar.addi v766 v767
  v768.toNat
def k0_dev27 (d0 : Dev nD) : Nat :=
  let c0_i32_723 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_722 : BitVec 32 := 16#32
  let v777 : BitVec 32 := Scalar.muli v2 c16_i32_722
  let v778 : BitVec 32 := Scalar.addi c0_i32_723 v777
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_724 : BitVec 32 := 4#32
  let v779 : BitVec 32 := Scalar.muli v5 c4_i32_724
  let v780 : BitVec 32 := Scalar.addi v778 v779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_725 : BitVec 32 := 1#32
  let v781 : BitVec 32 := Scalar.muli v45 c1_i32_725
  let v782 : BitVec 32 := Scalar.addi v780 v781
  v782.toNat
def k0_dev28 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_755 : BitVec 32 := 16#32
  let v809 : BitVec 32 := Scalar.muli v2 c16_i32_755
  let v810 : BitVec 32 := Scalar.addi c0_i32_756 v809
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_757 : BitVec 32 := 4#32
  let v811 : BitVec 32 := Scalar.muli v19 c4_i32_757
  let v812 : BitVec 32 := Scalar.addi v810 v811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v813 : BitVec 32 := Scalar.muli v8 c1_i32_758
  let v814 : BitVec 32 := Scalar.addi v812 v813
  v814.toNat
def k0_dev29 (d0 : Dev nD) : Nat :=
  let c0_i32_768 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_767 : BitVec 32 := 16#32
  let v823 : BitVec 32 := Scalar.muli v32 c16_i32_767
  let v824 : BitVec 32 := Scalar.addi c0_i32_768 v823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_769 : BitVec 32 := 4#32
  let v825 : BitVec 32 := Scalar.muli v5 c4_i32_769
  let v826 : BitVec 32 := Scalar.addi v824 v825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_770 : BitVec 32 := 1#32
  let v827 : BitVec 32 := Scalar.muli v8 c1_i32_770
  let v828 : BitVec 32 := Scalar.addi v826 v827
  v828.toNat
def k0_dev30 (d0 : Dev nD) : Nat :=
  let c0_i32_780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_779 : BitVec 32 := 16#32
  let v837 : BitVec 32 := Scalar.muli v2 c16_i32_779
  let v838 : BitVec 32 := Scalar.addi c0_i32_780 v837
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_781 : BitVec 32 := 4#32
  let v839 : BitVec 32 := Scalar.muli v5 c4_i32_781
  let v840 : BitVec 32 := Scalar.addi v838 v839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_782 : BitVec 32 := 1#32
  let v841 : BitVec 32 := Scalar.muli v45 c1_i32_782
  let v842 : BitVec 32 := Scalar.addi v840 v841
  v842.toNat
def k0_off13 (d0 : Dev nD) (c0_i32_478 : BitVec 32) : Fin 5 → Nat :=
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v524 : BitVec 32 := Scalar.subi v5 c0_i32_478
  let c4_i32_479 : BitVec 32 := 4#32
  let c0_i32_480 : BitVec 32 := 0#32
  let v525 : BitVec 1 := Scalar.cmpi .eq c4_i32_479 c0_i32_480
  let c1_i32_481 : BitVec 32 := 1#32
  let v526 : BitVec 32 := Scalar.select v525 c1_i32_481 c4_i32_479
  let v527 : BitVec 32 := Scalar.remsi v524 v526
  let c0_i32_483 : BitVec 32 := 0#32
  let v529 : BitVec 1 := Scalar.cmpi .slt v527 c0_i32_483
  let c0_i32_484 : BitVec 32 := 0#32
  let v530 : BitVec 1 := Scalar.cmpi .slt v526 c0_i32_484
  let v531 : BitVec 1 := Scalar.xori v529 v530
  let c0_i32_482 : BitVec 32 := 0#32
  let v528 : BitVec 1 := Scalar.cmpi .ne v527 c0_i32_482
  let v532 : BitVec 1 := Scalar.andi v531 v528
  let v533 : BitVec 32 := Scalar.addi v527 v526
  let v534 : BitVec 32 := Scalar.select v532 v533 v527
  let c0_i32_816 : BitVec 32 := 0#32
  let c0_i32_817 : BitVec 32 := 0#32
  ![v32.toNat, v42.toNat, v534.toNat, 0, 0]
def k0_dev31 (d0 : Dev nD) : Nat :=
  let c0_i32_813 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_812 : BitVec 32 := 16#32
  let v869 : BitVec 32 := Scalar.muli v2 c16_i32_812
  let v870 : BitVec 32 := Scalar.addi c0_i32_813 v869
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_814 : BitVec 32 := 4#32
  let v871 : BitVec 32 := Scalar.muli v5 c4_i32_814
  let v872 : BitVec 32 := Scalar.addi v870 v871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_815 : BitVec 32 := 1#32
  let v873 : BitVec 32 := Scalar.muli v45 c1_i32_815
  let v874 : BitVec 32 := Scalar.addi v872 v873
  v874.toNat
def k0_off14 (d0 : Dev nD) (c0_i32_478 : BitVec 32) : Fin 5 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_841 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v901 : BitVec 32 := Scalar.subi c1_i32_841 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v524 : BitVec 32 := Scalar.subi v5 c0_i32_478
  let c4_i32_479 : BitVec 32 := 4#32
  let c0_i32_480 : BitVec 32 := 0#32
  let v525 : BitVec 1 := Scalar.cmpi .eq c4_i32_479 c0_i32_480
  let c1_i32_481 : BitVec 32 := 1#32
  let v526 : BitVec 32 := Scalar.select v525 c1_i32_481 c4_i32_479
  let v527 : BitVec 32 := Scalar.remsi v524 v526
  let c0_i32_483 : BitVec 32 := 0#32
  let v529 : BitVec 1 := Scalar.cmpi .slt v527 c0_i32_483
  let c0_i32_484 : BitVec 32 := 0#32
  let v530 : BitVec 1 := Scalar.cmpi .slt v526 c0_i32_484
  let v531 : BitVec 1 := Scalar.xori v529 v530
  let c0_i32_482 : BitVec 32 := 0#32
  let v528 : BitVec 1 := Scalar.cmpi .ne v527 c0_i32_482
  let v532 : BitVec 1 := Scalar.andi v531 v528
  let v533 : BitVec 32 := Scalar.addi v527 v526
  let v534 : BitVec 32 := Scalar.select v532 v533 v527
  let c64_i32_850 : BitVec 32 := 64#32
  let c0_i32_851 : BitVec 32 := 0#32
  ![v2.toNat, v901.toNat, v534.toNat, 64, 0]
def k0_dev32 (d0 : Dev nD) : Nat :=
  let c0_i32_847 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_846 : BitVec 32 := 16#32
  let v902 : BitVec 32 := Scalar.muli v32 c16_i32_846
  let v903 : BitVec 32 := Scalar.addi c0_i32_847 v902
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_848 : BitVec 32 := 4#32
  let v904 : BitVec 32 := Scalar.muli v5 c4_i32_848
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v906 : BitVec 32 := Scalar.muli v8 c1_i32_849
  let v907 : BitVec 32 := Scalar.addi v905 v906
  v907.toNat
def k0_dev33 (d0 : Dev nD) : Nat :=
  let c0_i32_887 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_886 : BitVec 32 := 16#32
  let v945 : BitVec 32 := Scalar.muli v32 c16_i32_886
  let v946 : BitVec 32 := Scalar.addi c0_i32_887 v945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_888 : BitVec 32 := 4#32
  let v947 : BitVec 32 := Scalar.muli v5 c4_i32_888
  let v948 : BitVec 32 := Scalar.addi v946 v947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_889 : BitVec 32 := 1#32
  let v949 : BitVec 32 := Scalar.muli v8 c1_i32_889
  let v950 : BitVec 32 := Scalar.addi v948 v949
  v950.toNat
def k0_dev34 (d0 : Dev nD) : Nat :=
  let c0_i32_899 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_898 : BitVec 32 := 16#32
  let v959 : BitVec 32 := Scalar.muli v2 c16_i32_898
  let v960 : BitVec 32 := Scalar.addi c0_i32_899 v959
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_900 : BitVec 32 := 4#32
  let v961 : BitVec 32 := Scalar.muli v5 c4_i32_900
  let v962 : BitVec 32 := Scalar.addi v960 v961
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_901 : BitVec 32 := 1#32
  let v963 : BitVec 32 := Scalar.muli v45 c1_i32_901
  let v964 : BitVec 32 := Scalar.addi v962 v963
  v964.toNat
def k0_dev35 (d0 : Dev nD) : Nat :=
  let c0_i32_932 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_931 : BitVec 32 := 16#32
  let v991 : BitVec 32 := Scalar.muli v32 c16_i32_931
  let v992 : BitVec 32 := Scalar.addi c0_i32_932 v991
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_933 : BitVec 32 := 4#32
  let v993 : BitVec 32 := Scalar.muli v5 c4_i32_933
  let v994 : BitVec 32 := Scalar.addi v992 v993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v995 : BitVec 32 := Scalar.muli v8 c1_i32_934
  let v996 : BitVec 32 := Scalar.addi v994 v995
  v996.toNat
def k0_dev36 (d0 : Dev nD) : Nat :=
  let c0_i32_944 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_943 : BitVec 32 := 16#32
  let v1005 : BitVec 32 := Scalar.muli v2 c16_i32_943
  let v1006 : BitVec 32 := Scalar.addi c0_i32_944 v1005
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_945 : BitVec 32 := 4#32
  let v1007 : BitVec 32 := Scalar.muli v5 c4_i32_945
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_946 : BitVec 32 := 1#32
  let v1009 : BitVec 32 := Scalar.muli v45 c1_i32_946
  let v1010 : BitVec 32 := Scalar.addi v1008 v1009
  v1010.toNat
def k0_dev37 (d0 : Dev nD) : Nat :=
  let c0_i32_977 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_976 : BitVec 32 := 16#32
  let v1037 : BitVec 32 := Scalar.muli v2 c16_i32_976
  let v1038 : BitVec 32 := Scalar.addi c0_i32_977 v1037
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_978 : BitVec 32 := 4#32
  let v1039 : BitVec 32 := Scalar.muli v5 c4_i32_978
  let v1040 : BitVec 32 := Scalar.addi v1038 v1039
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_979 : BitVec 32 := 1#32
  let v1041 : BitVec 32 := Scalar.muli v45 c1_i32_979
  let v1042 : BitVec 32 := Scalar.addi v1040 v1041
  v1042.toNat
def k0_dev38 (d0 : Dev nD) : Nat :=
  let c0_i32_1011 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_1010 : BitVec 32 := 16#32
  let v1070 : BitVec 32 := Scalar.muli v32 c16_i32_1010
  let v1071 : BitVec 32 := Scalar.addi c0_i32_1011 v1070
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1012 : BitVec 32 := 4#32
  let v1072 : BitVec 32 := Scalar.muli v5 c4_i32_1012
  let v1073 : BitVec 32 := Scalar.addi v1071 v1072
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1074 : BitVec 32 := Scalar.muli v8 c1_i32_1013
  let v1075 : BitVec 32 := Scalar.addi v1073 v1074
  v1075.toNat
def k0_dev39 (d0 : Dev nD) : Nat :=
  let c0_i32_1044 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1043 : BitVec 32 := 16#32
  let v1102 : BitVec 32 := Scalar.muli v2 c16_i32_1043
  let v1103 : BitVec 32 := Scalar.addi c0_i32_1044 v1102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1045 : BitVec 32 := 4#32
  let v1104 : BitVec 32 := Scalar.muli v5 c4_i32_1045
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.addi v8 c1_i32_23
  let c2_i32_24 : BitVec 32 := 2#32
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi v8 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v44 : BitVec 32 := Scalar.muli c2_i32_24 v42
  let v45 : BitVec 32 := Scalar.subi v43 v44
  let c1_i32_1046 : BitVec 32 := 1#32
  let v1106 : BitVec 32 := Scalar.muli v45 c1_i32_1046
  let v1107 : BitVec 32 := Scalar.addi v1105 v1106
  v1107.toNat
def k0_dev40 (d0 : Dev nD) : Nat :=
  let c0_i32_1078 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_1077 : BitVec 32 := 16#32
  let v1135 : BitVec 32 := Scalar.muli v32 c16_i32_1077
  let v1136 : BitVec 32 := Scalar.addi c0_i32_1078 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1079 : BitVec 32 := 4#32
  let v1137 : BitVec 32 := Scalar.muli v5 c4_i32_1079
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1080 : BitVec 32 := 1#32
  let v1139 : BitVec 32 := Scalar.muli v8 c1_i32_1080
  let v1140 : BitVec 32 := Scalar.addi v1138 v1139
  v1140.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x4x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x2x4x128x2048 : Shape := ⟨5, ![8, 2, 4, 128, 2048]⟩
abbrev S2x2x4x128x2048 : Shape := ⟨5, ![2, 2, 4, 128, 2048]⟩
abbrev S1x2048 : Shape := ⟨2, ![1, 2048]⟩
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2x4x128x2048, .f32⟩
  | .hbm, ⟨1, _⟩ => ⟨S2x2x4x128x2048, .f32⟩
  | .hbm, ⟨2, _⟩ => ⟨S1x2048, .f32⟩
  | .hbm, ⟨3, _⟩ => ⟨S4x2048x2048, .f32⟩
  | .hbm, ⟨4, _⟩ => ⟨S2048x2048, .f32⟩
  | .hbm, ⟨5, _⟩ => ⟨S2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2x2x4x128x2048, .f32⟩
  | _, _ => ⟨S8x2x4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Mesh.lean ====
/-
# The mesh, the transfers and the slots

Device `c` of the 2 x 4 x 4 mesh has logical number `16 x + 4 y + z`. The kernel moves 36 half chunks out of
every device, each on its own pair of DMA semaphores, and copies four chunks locally. This module names the
transfers, says where each goes, where it is read and where it lands, and relates these names to the kernel's own
device numbers, semaphore numbers and offsets.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI

/-! ## Devices -/

/-- The coordinates of a device. -/
def cx (c : Dev nD) : Fin 2 := ⟨c.val / 16, by have := c.isLt; simp only [nD] at this; omega⟩
def cy (c : Dev nD) : Fin 4 := ⟨c.val / 4 % 4, Nat.mod_lt _ (by decide)⟩
def cz (c : Dev nD) : Fin 4 := ⟨c.val % 4, Nat.mod_lt _ (by decide)⟩
/-- The parity of the third coordinate: which of the two groups the device belongs to. -/
def zg (c : Dev nD) : Fin 2 := ⟨c.val % 2, Nat.mod_lt _ (by decide)⟩

/-- The device at given coordinates. -/
def devAt (x : Fin 2) (y z : Fin 4) : Dev nD := ⟨16 * x.val + 4 * y.val + z.val, by simp only [nD]; omega⟩

/-- The neighbours of a device along the ring, across the first axis, and within its pair of the third axis. -/
def right (c : Dev nD) : Dev nD := devAt (cx c) (cy c + 1) (cz c)
def left (c : Dev nD) : Dev nD := devAt (cx c) (cy c - 1) (cz c)
def xpeer (c : Dev nD) : Dev nD := devAt (cx c + 1) (cy c) (cz c)
def zpair (c : Dev nD) : Dev nD := devAt (cx c) (cy c) (if zg c = 0 then cz c + 1 else cz c - 1)

theorem left_right : ∀ c, left (right c) = c := by decide +kernel
theorem right_left : ∀ c, right (left c) = c := by decide +kernel
theorem xpeer_xpeer : ∀ c, xpeer (xpeer c) = c := by decide +kernel
theorem zpair_zpair : ∀ c, zpair (zpair c) = c := by decide +kernel

/-! ## Transfers -/

/-- The transfers out of a device: the first step of the ring sum, its two later steps, the three steps that pass
    finished chunks round the ring, the exchanges across the first axis and within a pair of the third axis, and the
    forwards that complete the two exchanges. `h` is the half of the chunk. -/
inductive T
  | r0 (h : Fin 2)
  | rs (s : Fin 2) (h : Fin 2)
  | ag (s : Fin 3) (h : Fin 2)
  | ex (k : Fin 4) (h : Fin 2)
  | ez (k : Fin 4) (h : Fin 2)
  | fz (k : Fin 4)
  | fx (k : Fin 4)
deriving DecidableEq

/-- All the transfers, listed. -/
def T.all : List T :=
  (List.finRange 2).map .r0
  ++ ((List.finRange 2).flatMap fun s => (List.finRange 2).map (.rs s))
  ++ ((List.finRange 3).flatMap fun s => (List.finRange 2).map (.ag s))
  ++ ((List.finRange 4).flatMap fun k => (List.finRange 2).map (.ex k))
  ++ ((List.finRange 4).flatMap fun k => (List.finRange 2).map (.ez k))
  ++ (List.finRange 4).map .fz ++ (List.finRange 4).map .fx

instance : Fintype T := ⟨⟨T.all, by decide +kernel⟩, fun t => by
  show t ∈ T.all
  cases t <;> simp [T.all]⟩

/-- The device a transfer goes to. -/
def dst (t : T) (c : Dev nD) : Dev nD := match t with
  | .r0 _ | .rs _ _ | .ag _ _ => right c
  | .ex _ _ | .fx _ => xpeer c
  | .ez _ _ | .fz _ => zpair c
/-- The device a transfer comes from. -/
def org (t : T) (c : Dev nD) : Dev nD := match t with
  | .r0 _ | .rs _ _ | .ag _ _ => left c
  | .ex _ _ | .fx _ => xpeer c
  | .ez _ _ | .fz _ => zpair c

theorem dst_org (t : T) (c : Dev nD) : dst t (org t c) = c := by
  cases t <;> first | exact right_left c | exact xpeer_xpeer c | exact zpair_zpair c
theorem org_dst (t : T) (c : Dev nD) : org t (dst t c) = c := by
  cases t <;> first | exact left_right c | exact xpeer_xpeer c | exact zpair_zpair c

/-- The number of a transfer's semaphore on the sending device, -/
def sIx : T → ℕ
  | .r0 h => 2 + h
  | .rs s h => 2 + (2 * (s + 1) + h)
  | .ag s h => 14 + (2 * s + h)
  | .ex k h => 26 + (2 * k + h)
  | .ez k h => 42 + (2 * k + h)
  | .fz k => 58 + (2 * k + 0)
  | .fx k => 74 + (2 * k + 1)
/-- and on the receiving device. -/
def rIx : T → ℕ
  | .r0 h => 8 + h
  | .rs s h => 8 + (2 * (s + 1) + h)
  | .ag s h => 20 + (2 * s + h)
  | .ex k h => 34 + (2 * k + h)
  | .ez k h => 50 + (2 * k + h)
  | .fz k => 66 + (2 * k + 0)
  | .fx k => 82 + (2 * k + 1)

theorem sIx_lt (t : T) : sIx t < 94 := by cases t <;> simp only [sIx] <;> omega
theorem rIx_lt (t : T) : rIx t < 94 := by cases t <;> simp only [rIx] <;> omega

/-- The semaphores themselves; `cS` those of the four local copies. -/
def sS (t : T) : DmaSem sig := ⟨sIx t, sIx_lt t⟩
def rS (t : T) : DmaSem sig := ⟨rIx t, rIx_lt t⟩
def cS (i : Fin 4) : DmaSem sig := ⟨90 + i.val, by have := i.isLt; show 90 + i.val < 94; omega⟩

example : (((cc0_scratch4.slice (Rect.unit (s := S3x2) ![0, 1] S1x1.size inb_S3x2_S1x1_0_1)).squeeze S_ squeezes_S1x1_S_).sem : DmaSem sig) = rS (.r0 1) := rfl
example : (((cc0_scratch14.slice (Rect.unit (s := S4x2) ![3, 1] S1x1.size inb_S4x2_S1x1_3_1)).squeeze S_ squeezes_S1x1_S_).sem : DmaSem sig) = rS (.fx 3) := rfl

/-- What the semaphore of a number is for: sending, receiving, a local copy, or nothing of the protocol's. -/
inductive Role
  | snd (t : T) | rcv (t : T) | cpy (i : Fin 4) | none
deriving DecidableEq

def roleIx (n : ℕ) : Role :=
  if n < 2 then .none
  else if n < 4 then .snd (.r0 (Fin.ofNat 2 n))
  else if n < 8 then .snd (.rs (Fin.ofNat 2 ((n - 4) / 2)) (Fin.ofNat 2 n))
  else if n < 10 then .rcv (.r0 (Fin.ofNat 2 n))
  else if n < 14 then .rcv (.rs (Fin.ofNat 2 ((n - 10) / 2)) (Fin.ofNat 2 n))
  else if n < 20 then .snd (.ag (Fin.ofNat 3 ((n - 14) / 2)) (Fin.ofNat 2 n))
  else if n < 26 then .rcv (.ag (Fin.ofNat 3 ((n - 20) / 2)) (Fin.ofNat 2 n))
  else if n < 34 then .snd (.ex (Fin.ofNat 4 ((n - 26) / 2)) (Fin.ofNat 2 n))
  else if n < 42 then .rcv (.ex (Fin.ofNat 4 ((n - 34) / 2)) (Fin.ofNat 2 n))
  else if n < 50 then .snd (.ez (Fin.ofNat 4 ((n - 42) / 2)) (Fin.ofNat 2 n))
  else if n < 58 then .rcv (.ez (Fin.ofNat 4 ((n - 50) / 2)) (Fin.ofNat 2 n))
  else if n < 66 then (if n % 2 = 0 then .snd (.fz (Fin.ofNat 4 ((n - 58) / 2))) else .none)
  else if n < 74 then (if n % 2 = 0 then .rcv (.fz (Fin.ofNat 4 ((n - 66) / 2))) else .none)
  else if n < 82 then (if n % 2 = 0 then .none else .snd (.fx (Fin.ofNat 4 ((n - 74) / 2))))
  else if n < 90 then (if n % 2 = 0 then .none else .rcv (.fx (Fin.ofNat 4 ((n - 82) / 2))))
  else .cpy (Fin.ofNat 4 (n - 90))

theorem roleIx_sIx : ∀ t, roleIx (sIx t) = .snd t := by decide +kernel
theorem roleIx_rIx : ∀ t, roleIx (rIx t) = .rcv t := by decide +kernel
theorem roleIx_cIx : ∀ i : Fin 4, roleIx (90 + i.val) = .cpy i := by decide +kernel

/-- What a semaphore is for; the barrier semaphore and the pipeline's own have no role here. -/
def role : SemLoc sig → Role
  | .dma q => roleIx q.val
  | .reg _ => .none

theorem role_sS (t : T) : role (.dma (sS t)) = .snd t := roleIx_sIx t
theorem role_rS (t : T) : role (.dma (rS t)) = .rcv t := roleIx_rIx t
theorem role_cS (i : Fin 4) : role (.dma (cS i)) = .cpy i := roleIx_cIx i

/-! ## Slots -/

/-- The offset of the half chunk `(a, z, j, h)` of a `2 x 2 x 4 x 128 x 2048` array. -/
def off5 (a z : Fin 2) (j : Fin 4) (h : Fin 2) : Fin 5 → ℕ := ![a, z, j, 64 * h, 0]
theorem off5_inb (a z : Fin 2) (j : Fin 4) (h : Fin 2) (i : Fin 5) : off5 a z j h i + S1x1x1x64x2048.size i ≤ S2x2x4x128x2048.size i := by
  revert a z j h i; decide +kernel
/-- The offset of the half `(k, h)` of a `3 x 128 x 2048` array. -/
def off3 (k : Fin 3) (h : Fin 2) : Fin 3 → ℕ := ![k, 64 * h, 0]
theorem off3_inb (k : Fin 3) (h : Fin 2) (i : Fin 3) : off3 k h i + S1x64x2048.size i ≤ S3x128x2048.size i := by
  revert k h i; decide +kernel
/-- The offset of the half `h` of a `128 x 2048` array. -/
def off2 (h : Fin 2) : Fin 2 → ℕ := ![64 * h, 0]
theorem off2_inb (h : Fin 2) (i : Fin 2) : off2 h i + S64x2048.size i ≤ S128x2048.size i := by
  revert h i; decide +kernel

abbrev rect5 (a z : Fin 2) (j : Fin 4) (h : Fin 2) : Rect S2x2x4x128x2048 := Rect.unit (off5 a z j h) S1x1x1x64x2048.size (off5_inb a z j h)
abbrev rect3 (k : Fin 3) (h : Fin 2) : Rect S3x128x2048 := Rect.unit (off3 k h) S1x64x2048.size (off3_inb k h)
abbrev rect2 (h : Fin 2) : Rect S128x2048 := Rect.unit (off2 h) S64x2048.size (off2_inb h)

/-- A half chunk of a five-dimensional memref, a half of a three-dimensional and of a two-dimensional one. -/
abbrev slot5 {sp : Space} (M : Memref sig .tc sp S2x2x4x128x2048 .f32) (a z : Fin 2) (j : Fin 4) (h : Fin 2) : Memref sig .tc sp S64x2048 .f32 :=
  (M.slice (rect5 a z j h) (fun _ => rfl)).squeeze S64x2048 squeezes_S1x1x1x64x2048_S64x2048
abbrev slot3 {sp : Space} (M : Memref sig .tc sp S3x128x2048 .f32) (k : Fin 3) (h : Fin 2) : Memref sig .tc sp S64x2048 .f32 :=
  (M.slice (rect3 k h) (fun _ => rfl)).squeeze S64x2048 squeezes_S1x64x2048_S64x2048
abbrev slot2 {sp : Space} (M : Memref sig .tc sp S128x2048 .f32) (h : Fin 2) : Memref sig .tc sp S64x2048 .f32 :=
  M.slice (rect2 h) (fun _ => rfl)

/-! Relative slots. `(dx, dz, k, h)` names the half chunk of the result that device `c` handles `dx` and `dz` away from
its own group and `k` steps back along the ring from the chunk it finishes itself. -/

/-- A relative name of a half chunk. -/
structure Rel where
  dx : Fin 2
  dz : Fin 2
  k : Fin 4
  h : Fin 2
deriving DecidableEq

/-- Where a transfer of the result reads on the sending device; the ring sum's first three kinds have no such slot. -/
def srcRel : T → Rel
  | .r0 h => ⟨0, 0, 0, h⟩
  | .rs _ h => ⟨0, 0, 0, h⟩
  | .ag s h => ⟨0, 0, s.castSucc, h⟩
  | .ex k h => ⟨0, 0, k, h⟩
  | .ez k h => ⟨0, 0, k, h⟩
  | .fz k => ⟨1, 0, k, 0⟩
  | .fx k => ⟨0, 1, k, 1⟩
/-- Where it lands on the receiving device. -/
def rcvRel : T → Rel
  | .r0 h => ⟨0, 0, 0, h⟩
  | .rs _ h => ⟨0, 0, 0, h⟩
  | .ag s h => ⟨0, 0, s.succ, h⟩
  | .ex k h => ⟨1, 0, k, h⟩
  | .ez k h => ⟨0, 1, k, h⟩
  | .fz k => ⟨1, 1, k, 0⟩
  | .fx k => ⟨1, 1, k, 1⟩

/-- Whether a transfer moves a part of the result. -/
def T.out : T → Bool
  | .r0 _ | .rs _ _ => false
  | _ => true

/-- The result slot a relative name stands for on device `c`: its first three coordinates. -/
def ax (c : Dev nD) (r : Rel) : Fin 2 := cx c + r.dx
def az (c : Dev nD) (r : Rel) : Fin 2 := zg c + r.dz
def ay (c : Dev nD) (r : Rel) : Fin 4 := cy c + 1 - r.k
/-- The device that computed what the slot holds. -/
def origin (c : Dev nD) (r : Rel) : Dev nD :=
  devAt (cx c + r.dx) (cy c - r.k) (if r.dz = 0 then cz c else if zg c = 0 then cz c + 1 else cz c - 1)

theorem place (t : T) (ht : t.out = true) (c : Dev nD) :
    ax (dst t c) (rcvRel t) = ax c (srcRel t) ∧ az (dst t c) (rcvRel t) = az c (srcRel t) ∧ ay (dst t c) (rcvRel t) = ay c (srcRel t)
      ∧ origin (dst t c) (rcvRel t) = origin c (srcRel t) ∧ (rcvRel t).h = (srcRel t).h := by
  revert t c; decide +kernel

end Cert.KernelIdeal.Hand
-- ==== Proof.Contents.lean ====
/-
# What the buffers hold

The contents of every slot the protocol hands round, as `64 x 2048` vectors computed from the memory at launch:
the half chunks of the two arguments, the running ring sums, and the finished half chunks of the result.
-/
module

public import proofs.«01_k».proof.Proof.Mesh
public import Idealize.ShloMosaic.Lib.Pointwise
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.SL Idealize.SL.RA Idealize.SL.BI

variable {F : FTy → Type} [FloatOps F]

/-! ## The buffers -/

abbrev pM : Memref sig .tc .hbm S2x2x4x128x2048 .f32 := Memref.whole main_arg0
abbrev resM : Memref sig .tc .hbm S2x2x4x128x2048 .f32 := Memref.whole main_arg1
abbrev gM : Memref sig .tc .vmem S1x2048 .f32 := Memref.whole cc0_stg0_0
abbrev outM : Memref sig .tc .vmem S2x2x4x128x2048 .f32 := Memref.whole cc0_stg1_0
abbrev pbM : Memref sig .tc .vmem S3x128x2048 .f32 := Memref.whole cc0_scratch0
abbrev rbM : Memref sig .tc .vmem S3x128x2048 .f32 := Memref.whole cc0_scratch1
abbrev rcM : Memref sig .tc .vmem S128x2048 .f32 := Memref.whole cc0_scratch2

/-! ## Whole chunks and their halves -/

/-- The offset of the chunk `(a, z, j)` of a five-dimensional array, and of slot `k` of a three-dimensional one. -/
def offc5 (a z : Fin 2) (j : Fin 4) : Fin 5 → ℕ := ![a, z, j, 0, 0]
theorem offc5_inb (a z : Fin 2) (j : Fin 4) (i : Fin 5) : offc5 a z j i + S1x1x1x128x2048.size i ≤ S2x2x4x128x2048.size i := by
  revert a z j i; decide +kernel
def offc3 (k : Fin 3) : Fin 3 → ℕ := ![k, 0, 0]
theorem offc3_inb (k : Fin 3) (i : Fin 3) : offc3 k i + S1x128x2048.size i ≤ S3x128x2048.size i := by
  revert k i; decide +kernel

abbrev chunk5 {sp : Space} (M : Memref sig .tc sp S2x2x4x128x2048 .f32) (a z : Fin 2) (j : Fin 4) : Memref sig .tc sp S128x2048 .f32 :=
  (M.slice (Rect.unit (offc5 a z j) S1x1x1x128x2048.size (offc5_inb a z j)) (fun _ => rfl)).squeeze S128x2048 squeezes_S1x1x1x128x2048_S128x2048
abbrev chunk3 {sp : Space} (M : Memref sig .tc sp S3x128x2048 .f32) (k : Fin 3) : Memref sig .tc sp S128x2048 .f32 :=
  (M.slice (Rect.unit (offc3 k) S1x128x2048.size (offc3_inb k)) (fun _ => rfl)).squeeze S128x2048 squeezes_S1x128x2048_S128x2048

/-- Row `64 h + i` of a chunk. -/
def rowOf (h : Fin 2) (i : Fin 64) : Fin 128 := ⟨64 * h.val + i.val, by omega⟩
/-- Half `h` of a chunk. -/
def half (h : Fin 2) (X : Vec F S128x2048 .f32) : Vec F S64x2048 .f32 := fun i => X (ix2 (rowOf h (i 0)) (i 1))

theorem emb_slot5 {sp : Space} (M : Memref sig .tc sp S2x2x4x128x2048 .f32) (a z : Fin 2) (j : Fin 4) (h : Fin 2) (i : S64x2048.Idx) :
    (slot5 M a z j h).view.emb i = M.view.emb (ix5 a z j (rowOf h (i 0)) (i 1)) := by
  show M.view.emb ((rect5 a z j h).emb (Shape.reshapeEquiv _ i)) = _
  have e : Shape.reshapeEquiv (s := S1x1x1x64x2048) (s' := S64x2048) squeezes_S1x1x1x64x2048_S64x2048.numel_eq i
      = ix5 (n0 := 1) (n1 := 1) (n2 := 1) (n3 := 64) (n4 := 2048) 0 0 0 (i 0) (i 1) :=
    Shape.reshapeEquiv_eq_of_rowMajor _ (by
      rw [Shape.rowMajor_val_five, Shape.rowMajor_val_two]
      simp [ix5, S1x1x1x64x2048, S64x2048])
  rw [e]
  congr 1
  refine funext fun a => Fin.ext ?_
  fin_cases a <;> simp [Rect.unit, Rect.emb, off5, ix5, rowOf]

theorem emb_slot3 {sp : Space} (M : Memref sig .tc sp S3x128x2048 .f32) (k : Fin 3) (h : Fin 2) (i : S64x2048.Idx) :
    (slot3 M k h).view.emb i = M.view.emb (ix3 k (rowOf h (i 0)) (i 1)) := by
  show M.view.emb ((rect3 k h).emb (Shape.reshapeEquiv _ i)) = _
  have e : Shape.reshapeEquiv (s := S1x64x2048) (s' := S64x2048) squeezes_S1x64x2048_S64x2048.numel_eq i
      = ix3 (n0 := 1) (n1 := 64) (n2 := 2048) 0 (i 0) (i 1) :=
    Shape.reshapeEquiv_eq_of_rowMajor _ (by
      rw [Shape.rowMajor_val_three, Shape.rowMajor_val_two]
      simp [ix3, S1x64x2048, S64x2048])
  rw [e]
  congr 1
  refine funext fun a => Fin.ext ?_
  fin_cases a <;> simp [Rect.unit, Rect.emb, off3, ix3, rowOf]

theorem emb_chunk5 {sp : Space} (M : Memref sig .tc sp S2x2x4x128x2048 .f32) (a z : Fin 2) (j : Fin 4) (i : S128x2048.Idx) :
    (chunk5 M a z j).view.emb i = M.view.emb (ix5 a z j (i 0) (i 1)) := by
  show M.view.emb ((Rect.unit (s := S2x2x4x128x2048) (offc5 a z j) S1x1x1x128x2048.size (offc5_inb a z j)).emb (Shape.reshapeEquiv _ i)) = _
  have e : Shape.reshapeEquiv (s := S1x1x1x128x2048) (s' := S128x2048) squeezes_S1x1x1x128x2048_S128x2048.numel_eq i
      = ix5 (n0 := 1) (n1 := 1) (n2 := 1) (n3 := 128) (n4 := 2048) 0 0 0 (i 0) (i 1) :=
    Shape.reshapeEquiv_eq_of_rowMajor _ (by
      rw [Shape.rowMajor_val_five, Shape.rowMajor_val_two]
      simp [ix5, S1x1x1x128x2048, S128x2048])
  rw [e]
  congr 1
  refine funext fun a => Fin.ext ?_
  fin_cases a <;> simp [Rect.unit, Rect.emb, offc5, ix5]

theorem emb_chunk3 {sp : Space} (M : Memref sig .tc sp S3x128x2048 .f32) (k : Fin 3) (i : S128x2048.Idx) :
    (chunk3 M k).view.emb i = M.view.emb (ix3 k (i 0) (i 1)) := by
  show M.view.emb ((Rect.unit (s := S3x128x2048) (offc3 k) S1x128x2048.size (offc3_inb k)).emb (Shape.reshapeEquiv _ i)) = _
  have e : Shape.reshapeEquiv (s := S1x128x2048) (s' := S128x2048) squeezes_S1x128x2048_S128x2048.numel_eq i
      = ix3 (n0 := 1) (n1 := 128) (n2 := 2048) 0 (i 0) (i 1) :=
    Shape.reshapeEquiv_eq_of_rowMajor _ (by
      rw [Shape.rowMajor_val_three, Shape.rowMajor_val_two]
      simp [ix3, S1x128x2048, S128x2048])
  rw [e]
  congr 1
  refine funext fun a => Fin.ext ?_
  fin_cases a <;> simp [Rect.unit, Rect.emb, offc3, ix3]

theorem emb_slot2 {sp : Space} (M : Memref sig .tc sp S128x2048 .f32) (h : Fin 2) (i : S64x2048.Idx) :
    (slot2 M h).view.emb i = M.view.emb (ix2 (rowOf h (i 0)) (i 1)) := by
  show M.view.emb ((rect2 h).emb i) = _
  congr 1
  refine funext fun a => Fin.ext ?_
  fin_cases a <;> simp [Rect.unit, Rect.emb, off2, rowOf]

/-! ## Contents computed from the memory at launch -/

/-- A block's rows normalised by the root of their mean square (and a small constant), times a gain row. -/
def lnB (x : FVec F S64x2048 .f32) (g : Vec F S1x2048 .f32) : FVec F S64x2048 .f32 :=
  mulf (divf x (broadcastTo S64x2048 (sqrt (addf (divf (shapeCast S64x1 (multiReduction .add [1] S64 (mulf x x) 0x00000000#32 reduces_S64x2048_S64 (.inl rfl) rfl)
      shapeCasts_S64_S64x1) (broadcast S64x1 (Scalar.ofBits .f32 0x45000000#32 : F .f32))) (broadcast S64x1 (Scalar.ofBits .f32 0x358637BD#32 : F .f32))))
      broadcasts_S64x1_S64x2048))
    (broadcastTo S64x2048 (shapeCast S1x2048 g shapeCasts_S1x2048_S1x2048) broadcasts_S1x2048_S64x2048)

variable (m : (ℓ : Loc nD τ sig) → Buf (Elt F) ℓ)

/-- The two arguments' arrays on device `c`, and the gain row as the pipeline stages it. -/
def pA (c : Dev nD) : (main_arg0 : Ref sig .tc).ty.Contents (Elt F) := m ((c : Thread nD τ).loc main_arg0)
def rA (c : Dev nD) : (main_arg1 : Ref sig .tc).ty.Contents (Elt F) := m ((c : Thread nD τ).loc main_arg1)
def gA (c : Dev nD) : (cc0_stg0_0 : Ref sig .tc).ty.Contents (Elt F) :=
  (win0_0.blk (0 : Fin 1)).view.read (Elt F) (m ((c : Thread nD τ).loc main_arg2))

/-- Half `h` of chunk `j` of device `c`'s partial, in the rows of its own group. -/
def P (c : Dev nD) (j : Fin 4) (h : Fin 2) : Vec F S64x2048 .f32 := (slot5 pM (cx c) (zg c) j h).view.read (Elt F) (pA m c)
/-- Half `h` of the residual rows device `c` finishes. -/
def RR (c : Dev nD) (h : Fin 2) : Vec F S64x2048 .f32 := (slot5 resM (cx c) (zg c) (cy c + 1) h).view.read (Elt F) (rA m c)
/-- The whole chunks that are copied locally. -/
def PC (c : Dev nD) (k : Fin 3) : Vec F S128x2048 .f32 := (chunk5 pM (cx c) (zg c) (cy c - 1 - k.castSucc)).view.read (Elt F) (pA m c)
def RC (c : Dev nD) : Vec F S128x2048 .f32 := (chunk5 resM (cx c) (zg c) (cy c + 1)).view.read (Elt F) (rA m c)
/-- Half `h` of the copied chunk `k`. -/
def PB (c : Dev nD) (k : ℕ) (h : Fin 2) : Vec F S64x2048 .f32 := P m c (cy c - 1 - Fin.ofNat 4 k) h

/-- What slot `s` of the ring buffer receives: a chunk's sum over the `s + 1` devices before `c`. -/
def R : ℕ → Dev nD → Fin 2 → Vec F S64x2048 .f32
  | 0, c, h => P m (left c) (cy (left c)) h
  | s + 1, c, h => addf (R s (left c) h) (PB m (left c) s h)
/-- What device `c` sends on from slot `s`. -/
def U (s : ℕ) (c : Dev nD) (h : Fin 2) : Vec F S64x2048 .f32 := addf (R m s c h) (PB m c s h)
/-- The half chunk of the result that device `c` finishes. -/
def Own (c : Dev nD) (h : Fin 2) : Vec F S64x2048 .f32 := lnB (addf (addf (R m 2 c h) (PB m c 2 h)) (RR m c h)) (gA m c)
/-- What the result slot of relative name `r` holds in the end on device `c`. -/
def OutV (c : Dev nD) (r : Rel) : Vec F S64x2048 .f32 := Own m (origin c r) r.h

theorem read_slot5 {sp : Space} (M : Memref sig .tc sp S2x2x4x128x2048 .f32) (a z : Fin 2) (j : Fin 4) (h : Fin 2) (f : M.view.ty.Contents (Elt F)) (i : S64x2048.Idx) :
    (slot5 M a z j h).view.read (Elt F) f i = M.view.read (Elt F) f (ix5 a z j (rowOf h (i 0)) (i 1)) :=
  congrArg (fun e => cast _ (f e)) (emb_slot5 M a z j h i)
theorem read_chunk5 {sp : Space} (M : Memref sig .tc sp S2x2x4x128x2048 .f32) (a z : Fin 2) (j : Fin 4) (f : M.view.ty.Contents (Elt F)) (i : S128x2048.Idx) :
    (chunk5 M a z j).view.read (Elt F) f i = M.view.read (Elt F) f (ix5 a z j (i 0) (i 1)) :=
  congrArg (fun e => cast _ (f e)) (emb_chunk5 M a z j i)
theorem read_slot3 {sp : Space} (M : Memref sig .tc sp S3x128x2048 .f32) (k : Fin 3) (h : Fin 2) (f : M.view.ty.Contents (Elt F)) (i : S64x2048.Idx) :
    (slot3 M k h).view.read (Elt F) f i = M.view.read (Elt F) f (ix3 k (rowOf h (i 0)) (i 1)) :=
  congrArg (fun e => cast _ (f e)) (emb_slot3 M k h i)
theorem read_chunk3 {sp : Space} (M : Memref sig .tc sp S3x128x2048 .f32) (k : Fin 3) (f : M.view.ty.Contents (Elt F)) (i : S128x2048.Idx) :
    (chunk3 M k).view.read (Elt F) f i = M.view.read (Elt F) f (ix3 k (i 0) (i 1)) :=
  congrArg (fun e => cast _ (f e)) (emb_chunk3 M k i)
theorem read_slot2 {sp : Space} (M : Memref sig .tc sp S128x2048 .f32) (h : Fin 2) (f : M.view.ty.Contents (Elt F)) (i : S64x2048.Idx) :
    (slot2 M h).view.read (Elt F) f i = M.view.read (Elt F) f (ix2 (rowOf h (i 0)) (i 1)) :=
  congrArg (fun e => cast _ (f e)) (emb_slot2 M h i)

/-- A half of a chunk in a slot of a three-dimensional buffer is that half of what the slot holds. -/
theorem half_chunk3 {sp : Space} (M : Memref sig .tc sp S3x128x2048 .f32) (k : Fin 3) (h : Fin 2) (f : M.view.ty.Contents (Elt F)) :
    (slot3 M k h).view.read (Elt F) f = half h ((chunk3 M k).view.read (Elt F) f) :=
  funext fun i => (read_slot3 M k h f i).trans (read_chunk3 M k f (ix2 (rowOf h (i 0)) (i 1))).symm
theorem half_whole {sp : Space} (M : Memref sig .tc sp S128x2048 .f32) (h : Fin 2) (f : M.view.ty.Contents (Elt F)) :
    (slot2 M h).view.read (Elt F) f = half h (M.view.read (Elt F) f) :=
  funext fun i => read_slot2 M h f i
theorem half_PC (c : Dev nD) (k : Fin 3) (h : Fin 2) : half h (PC m c k) = PB m c k.val h := by
  funext i
  have e : (k.castSucc : Fin 4) = Fin.ofNat 4 k.val := Fin.ext (by show k.val = k.val % 4; omega)
  show (chunk5 pM (cx c) (zg c) (cy c - 1 - k.castSucc)).view.read (Elt F) (pA m c) (ix2 (rowOf h (i 0)) (i 1))
    = (slot5 pM (cx c) (zg c) (cy c - 1 - Fin.ofNat 4 k.val) h).view.read (Elt F) (pA m c) i
  rw [read_slot5, read_chunk5, e]; rfl
theorem half_RC (c : Dev nD) (h : Fin 2) : half h (RC m c) = RR m c h := by
  funext i
  show (chunk5 resM (cx c) (zg c) (cy c + 1)).view.read (Elt F) (rA m c) (ix2 (rowOf h (i 0)) (i 1))
    = (slot5 resM (cx c) (zg c) (cy c + 1) h).view.read (Elt F) (rA m c) i
  rw [read_slot5, read_chunk5]; rfl

end Cert.KernelIdeal.Hand
-- ==== Proof.Links.lean ====
/-
# The order of a device's steps, and the life of each resource

A device's run after the entry barrier is a fixed list of steps: it starts and awaits its local copies, sends and
awaits transfers, adds a chunk to a running sum, and finishes a half chunk of the result. Every resource the proof
holds is a link between two steps: the one that makes it and the one that uses it up. At step `n` exactly those
links are held that have been made and not yet used.
-/
module

public import proofs.«01_k».proof.Proof.Mesh
public import Idealize.SL.BI.BigOp
public import Idealize.SL.ProofMode.BigOp

@[expose] public section

noncomputable section

namespace Cert.KernelIdeal.Hand

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode

/-! ## Steps -/

/-- A step: start or await a local copy, send, await the sending side or the receiving side of a transfer, add a half
    chunk to the running sum, finish a half chunk of the result. -/
inductive Op
  | cp (i : Fin 4)
  | cw (i : Fin 4)
  | send (t : T)
  | sw (t : T)
  | rw (t : T)
  | upd (s : Fin 2) (h : Fin 2)
  | own (h : Fin 2)
deriving DecidableEq

/-- A round of the gather: what happens on the arrival of chunk `s + 1`, half `h`, from the left. -/
def gatherSteps (s : Fin 3) (h : Fin 2) : List Op :=
  [.sw (.ag s h), .rw (.ag s h)] ++ (if s.val < 2 then [.send (.ag (Fin.ofNat 3 (s.val + 1)) h)] else [])
    ++ [.send (.ex s.succ h), .send (.ez s.succ h)]
/-- The two forwards of chunk `k`. -/
def forwardSteps (k : Fin 4) : List Op :=
  [.sw (.ex k 0), .rw (.ex k 0), .send (.fz k), .sw (.ez k 1), .rw (.ez k 1), .send (.fx k)]

/-- The steps in order. -/
def prog : List Op :=
  [.cp 0, .cp 1, .cp 2, .cp 3, .send (.r0 0), .send (.r0 1), .cw 0]
  ++ ((List.finRange 2).flatMap fun h => [.sw (.r0 h), .rw (.r0 h), .upd 0 h, .send (.rs 0 h)])
  ++ [.cw 1]
  ++ ((List.finRange 2).flatMap fun h => [.sw (.rs 0 h), .rw (.rs 0 h), .upd 1 h, .send (.rs 1 h)])
  ++ [.cw 2, .cw 3]
  ++ ((List.finRange 2).flatMap fun h =>
        [.sw (.rs 1 h), .rw (.rs 1 h), .own h, .send (.ag 0 h), .send (.ex 0 h), .send (.ez 0 h)])
  ++ ((List.finRange 3).flatMap fun s => gatherSteps s 0 ++ gatherSteps s 1 ++ forwardSteps s.castSucc)
  ++ forwardSteps 3
  ++ ((List.finRange 4).flatMap fun k => [.sw (.ex k 1), .rw (.ex k 1), .sw (.ez k 0), .rw (.ez k 0)])
  ++ ((List.finRange 4).flatMap fun k => [.sw (.fz k), .rw (.fz k), .sw (.fx k), .rw (.fx k)])

def Op.all : List Op :=
  (List.finRange 4).map .cp ++ (List.finRange 4).map .cw ++ T.all.map .send ++ T.all.map .sw ++ T.all.map .rw
  ++ ((List.finRange 2).flatMap fun s => (List.finRange 2).map (.upd s)) ++ (List.finRange 2).map .own

theorem T.mem_all (t : T) : t ∈ T.all := Finset.mem_univ t

def T.code : T → ℕ
  | .r0 h => h.val
  | .rs s h => 2 + 2 * s.val + h.val
  | .ag s h => 6 + 2 * s.val + h.val
  | .ex k h => 12 + 2 * k.val + h.val
  | .ez k h => 20 + 2 * k.val + h.val
  | .fz k => 28 + k.val
  | .fx k => 32 + k.val
/-- A number for each step, so that steps are compared as numbers. -/
def Op.code : Op → ℕ
  | .cp i => i.val
  | .cw i => 4 + i.val
  | .send t => 8 + t.code
  | .sw t => 44 + t.code
  | .rw t => 80 + t.code
  | .upd s h => 116 + 2 * s.val + h.val
  | .own h => 120 + h.val

theorem Op.at_code (o : Op) : Op.all[o.code]? = some o := by
  cases o with
  | cp i => revert i; decide +kernel
  | cw i => revert i; decide +kernel
  | send t => revert t; decide +kernel
  | sw t => revert t; decide +kernel
  | rw t => revert t; decide +kernel
  | upd s h => revert s h; decide +kernel
  | own h => revert h; decide +kernel
theorem Op.code_inj {o o' : Op} (h : o.code = o'.code) : o = o' :=
  Option.some.inj (by rw [← at_code o, h, at_code o'])

instance (priority := 2000) : DecidableEq Op := fun o o' => decidable_of_iff (o.code = o'.code) ⟨Op.code_inj, fun h => h ▸ rfl⟩

instance : Fintype Op := ⟨⟨Op.all, Multiset.coe_nodup.mpr (.of_map Op.code (by
    rw [show Op.all.map Op.code = List.range 122 by decide +kernel]; exact List.nodup_range))⟩, fun o => by
  show o ∈ Op.all
  cases o <;> simp [Op.all, T.mem_all]⟩

theorem Op.forall {p : Op → Prop} [DecidablePred p] (h : Op.all.all (fun o => decide (p o)) = true) (o : Op) : p o :=
  of_decide_eq_true (List.all_eq_true.mp h o (Finset.mem_univ o))

/-- The place of a step in the order. -/
def idx : Op → ℕ
  | .cp i => i.val
  | .cw i => if i = 0 then 6 else if i = 1 then 15 else 22 + i.val
  | .send (.r0 h) => 4 + h.val
  | .sw (.r0 h) => 7 + 4 * h.val
  | .rw (.r0 h) => 8 + 4 * h.val
  | .upd s h => 9 + 9 * s.val + 4 * h.val
  | .send (.rs s h) => 10 + 9 * s.val + 4 * h.val
  | .sw (.rs s h) => if s = 0 then 16 + 4 * h.val else 26 + 6 * h.val
  | .rw (.rs s h) => if s = 0 then 17 + 4 * h.val else 27 + 6 * h.val
  | .own h => 28 + 6 * h.val
  | .send (.ag s h) => if s = 0 then 29 + 6 * h.val else 24 + 16 * s.val + 5 * h.val
  | .send (.ex k h) => if k = 0 then 30 + 6 * h.val else if k = 3 then 72 + 4 * h.val else 25 + 16 * k.val + 5 * h.val
  | .send (.ez k h) => if k = 0 then 31 + 6 * h.val else if k = 3 then 73 + 4 * h.val else 26 + 16 * k.val + 5 * h.val
  | .sw (.ag s h) => if s = 2 then 70 + 4 * h.val else 38 + 16 * s.val + 5 * h.val
  | .rw (.ag s h) => if s = 2 then 71 + 4 * h.val else 39 + 16 * s.val + 5 * h.val
  | .sw (.ex k h) => if h = 0 then (if k < 2 then 48 + 16 * k.val else 66 + 6 * k.val) else 90 + 4 * k.val
  | .rw (.ex k h) => if h = 0 then (if k < 2 then 49 + 16 * k.val else 67 + 6 * k.val) else 91 + 4 * k.val
  | .send (.fz k) => if k < 2 then 50 + 16 * k.val else 68 + 6 * k.val
  | .sw (.ez k h) => if h = 1 then (if k < 2 then 51 + 16 * k.val else 69 + 6 * k.val) else 92 + 4 * k.val
  | .rw (.ez k h) => if h = 1 then (if k < 2 then 52 + 16 * k.val else 70 + 6 * k.val) else 93 + 4 * k.val
  | .send (.fx k) => if k < 2 then 53 + 16 * k.val else 71 + 6 * k.val
  | .sw (.fz k) => 106 + 4 * k.val
  | .rw (.fz k) => 107 + 4 * k.val
  | .sw (.fx k) => 108 + 4 * k.val
  | .rw (.fx k) => 109 + 4 * k.val

theorem prog_idx : ∀ o, prog[idx o]? = some o := Op.forall (by decide +kernel)
theorem prog_length : prog.length = 122 := by decide +kernel
theorem idx_lt (o : Op) : idx o < 122 := by
  rw [← prog_length]; exact (List.getElem?_eq_some_iff.mp (prog_idx o)).1
theorem idx_inj {o o' : Op} : idx o = idx o' ↔ o = o' :=
  ⟨fun h => Option.some.inj (by rw [← prog_idx o, h, prog_idx o']), fun h => h ▸ rfl⟩

/-! ## Own semaphores by number -/

/-- The kernel's own DMA semaphores: those behind the pipeline's two. -/
abbrev osem (i : Fin 92) : SemLoc sig := .dma ⟨i.val + 2, by have := i.isLt; show i.val + 2 < 94; omega⟩

def sI (t : T) : Fin 92 := ⟨sIx t - 2, by revert t; decide +kernel⟩
def rI (t : T) : Fin 92 := ⟨rIx t - 2, by revert t; decide +kernel⟩
def cI (i : Fin 4) : Fin 92 := ⟨88 + i.val, by omega⟩
theorem sIx_ge : ∀ t, 2 ≤ sIx t := by decide +kernel
theorem rIx_ge : ∀ t, 2 ≤ rIx t := by decide +kernel
theorem osem_sI (t : T) : osem (sI t) = .dma (sS t) :=
  congrArg SemLoc.dma (Fin.ext (by show sIx t - 2 + 2 = sIx t; have := sIx_ge t; omega))
theorem osem_rI (t : T) : osem (rI t) = .dma (rS t) :=
  congrArg SemLoc.dma (Fin.ext (by show rIx t - 2 + 2 = rIx t; have := rIx_ge t; omega))
theorem osem_cI (i : Fin 4) : osem (cI i) = .dma (cS i) :=
  congrArg SemLoc.dma (Fin.ext (by show 88 + i.val + 2 = 90 + i.val; omega))

/-! ## Links -/

/-- The moment a link begins or ends. -/
inductive When
  | start | at (o : Op) | never
deriving DecidableEq

/-- The step that ends a semaphore's use. -/
def waitOf : Role → When
  | .snd t => .at (.sw t)
  | .rcv t => .at (.rw t)
  | .cpy i => .at (.cw i)
  | .none => .never

/-- The links, family by family. -/
inductive Lk
  | tok (t : T)                  -- what sending needs beside its source
  | rcr (t : T)                  -- the right to await an arrival
  | src (t : T)                  -- a source ready to be sent
  | scr (t : T)                  -- the right to await a source
  | back (t : T)                 -- a source come back
  | fin (t : T)                  -- what remains of a landed half chunk
  | pos (i : Fin 92)             -- the owner's place at a semaphore
  | zero (i : Fin 92)            -- a semaphore done with
  | raw (s : Fin 3) (h : Fin 2)  -- a received partial sum
  | rawE (h : Fin 2)             -- the last one, used
  | pb (k : Fin 3) (h : Fin 2)   -- a copied half chunk of the partial
  | pbE (k : Fin 3) (h : Fin 2)
  | rc (h : Fin 2)               -- a copied half chunk of the residual
  | rcE (h : Fin 2)
  | ctok (i : Fin 4)             -- a local copy to be started
  | ccr (i : Fin 4)
  | cbk (i : Fin 4)
  | own0 (h : Fin 2)             -- the slot of the result the device fills itself
deriving DecidableEq

/-- When a link is made. -/
def made : Lk → When
  | .tok _ | .rcr _ | .pos _ | .ctok _ | .own0 _ => .start
  | .src (.r0 _) => .start
  | .src (.rs s h) => .at (.upd s h)
  | .src (.ag s h) => if s = 0 then .at (.own h) else .at (.rw (.ag (s - 1) h))
  | .src (.ex k h) | .src (.ez k h) => if k = 0 then .at (.own h) else .at (.rw (.ag (Fin.ofNat 3 (k.val - 1)) h))
  | .src (.fz k) => .at (.rw (.ex k 0))
  | .src (.fx k) => .at (.rw (.ez k 1))
  | .scr t => .at (.send t)
  | .back t => .at (.sw t)
  | .fin t => .at (.rw t)
  | .zero i => waitOf (role (osem i))
  | .raw s h => if s = 0 then .at (.rw (.r0 h)) else .at (.rw (.rs (Fin.ofNat 2 (s.val - 1)) h))
  | .rawE h => .at (.own h)
  | .pb k h => .at (.cw k.castSucc)
  | .pbE k h => if k = 2 then .at (.own h) else .at (.upd (Fin.ofNat 2 k.val) h)
  | .rc _ => .at (.cw 3)
  | .rcE h => .at (.own h)
  | .ccr i => .at (.cp i)
  | .cbk i => .at (.cw i)

/-- When it is used up. -/
def used : Lk → When
  | .tok t | .src t => .at (.send t)
  | .rcr t => .at (.rw t)
  | .scr t => .at (.sw t)
  | .back _ | .fin _ | .zero _ | .rawE _ | .pbE _ _ | .rcE _ | .cbk _ => .never
  | .pos i => waitOf (role (osem i))
  | .raw s h => if s = 2 then .at (.own h) else .at (.upd (Fin.ofNat 2 s.val) h)
  | .pb k h => if k = 2 then .at (.own h) else .at (.upd (Fin.ofNat 2 k.val) h)
  | .rc h => .at (.own h)
  | .ctok i => .at (.cp i)
  | .ccr i => .at (.cw i)
  | .own0 h => .at (.own h)

/-- The links a step makes, and those it uses up. -/
def makes : Op → List Lk
  | .cp i => [.ccr i]
  | .cw i => [.zero (cI i), .cbk i] ++ (if i = 3 then [.rc 0, .rc 1] else [.pb (Fin.ofNat 3 i.val) 0, .pb (Fin.ofNat 3 i.val) 1])
  | .send t => [.scr t]
  | .sw t => [.zero (sI t), .back t]
  | .rw t => .zero (rI t) :: .fin t :: match t with
    | .r0 h => [.raw 0 h]
    | .rs s h => [.raw s.succ h]
    | .ag s h => if s = 2 then [.src (.ex 3 h), .src (.ez 3 h)] else [.src (.ag (s + 1) h), .src (.ex s.succ h), .src (.ez s.succ h)]
    | .ex k h => if h = 0 then [.src (.fz k)] else []
    | .ez k h => if h = 1 then [.src (.fx k)] else []
    | .fz _ | .fx _ => []
  | .upd s h => [.src (.rs s h), .pbE s.castSucc h]
  | .own h => [.src (.ag 0 h), .src (.ex 0 h), .src (.ez 0 h), .rawE h, .pbE 2 h, .rcE h]
def uses : Op → List Lk
  | .cp i => [.ctok i]
  | .cw i => [.pos (cI i), .ccr i]
  | .send t => [.tok t, .src t]
  | .sw t => [.pos (sI t), .scr t]
  | .rw t => [.pos (rI t), .rcr t]
  | .upd s h => [.raw s.castSucc h, .pb s.castSucc h]
  | .own h => [.raw 2 h, .pb 2 h, .rc h, .own0 h]

def Lk.all : List Lk :=
  T.all.map .tok ++ T.all.map .rcr ++ T.all.map .src ++ T.all.map .scr ++ T.all.map .back ++ T.all.map .fin
  ++ (List.finRange 92).map .pos ++ (List.finRange 92).map .zero
  ++ ((List.finRange 3).flatMap fun s => (List.finRange 2).map (.raw s)) ++ (List.finRange 2).map .rawE
  ++ ((List.finRange 3).flatMap fun s => (List.finRange 2).map (.pb s)) ++ ((List.finRange 3).flatMap fun s => (List.finRange 2).map (.pbE s))
  ++ (List.finRange 2).map .rc ++ (List.finRange 2).map .rcE
  ++ (List.finRange 4).map .ctok ++ (List.finRange 4).map .ccr ++ (List.finRange 4).map .cbk ++ (List.finRange 2).map .own0

/-- A number for each link. -/
def Lk.code : Lk → ℕ
  | .tok t => t.code
  | .rcr t => 36 + t.code
  | .src t => 72 + t.code
  | .scr t => 108 + t.code
  | .back t => 144 + t.code
  | .fin t => 180 + t.code
  | .pos i => 216 + i.val
  | .zero i => 308 + i.val
  | .raw s h => 400 + 2 * s.val + h.val
  | .rawE h => 406 + h.val
  | .pb k h => 408 + 2 * k.val + h.val
  | .pbE k h => 414 + 2 * k.val + h.val
  | .rc h => 420 + h.val
  | .rcE h => 422 + h.val
  | .ctok i => 424 + i.val
  | .ccr i => 428 + i.val
  | .cbk i => 432 + i.val
  | .own0 h => 436 + h.val

instance : Fintype Lk := ⟨⟨Lk.all, Multiset.coe_nodup.mpr (.of_map Lk.code (by
    rw [show Lk.all.map Lk.code = List.range 438 by decide +kernel]; exact List.nodup_range))⟩, fun x => by
  show x ∈ Lk.all
  cases x <;> simp [Lk.all, T.mem_all]⟩

theorem Lk.forall {p : Lk → Prop} [DecidablePred p] (h : Lk.all.all (fun x => decide (p x)) = true) (x : Lk) : p x :=
  of_decide_eq_true (List.all_eq_true.mp h x (Finset.mem_univ x))

/-- The number of the first step at which a link can be used, and of the last one before which it is there. -/
def When.from : When → ℕ
  | .start => 0 | .at o => idx o + 1 | .never => 1000
def When.upto : When → ℕ
  | .start => 0 | .at o => idx o | .never => 1000

theorem made_before_used : ∀ x, (made x).from ≤ (used x).upto := Lk.forall (by decide +kernel)
theorem makes_nodup : ∀ o, (makes o).Nodup := Op.forall (by decide +kernel)
theorem uses_nodup : ∀ o, (uses o).Nodup := Op.forall (by decide +kernel)
/-- Whether a moment is that step, told by number. -/
def When.isAt (w : When) (o : Op) : Bool :=
  match w with
  | .at o' => o'.code == o.code
  | _ => false
theorem When.isAt_eq {w : When} {o : Op} (h : w.isAt o = true) : w = .at o := by
  cases w with
  | «at» o' => exact congrArg When.at (Op.code_inj (eq_of_beq h))
  | start => exact absurd h Bool.false_ne_true
  | never => exact absurd h Bool.false_ne_true
theorem makes_made (o : Op) (x : Lk) (hx : x ∈ makes o) : made x = .at o :=
  When.isAt_eq (List.all_eq_true.mp (Op.forall (p := fun o => (makes o).all (fun x => (made x).isAt o) = true) (by decide +kernel) o) x hx)
theorem uses_used (o : Op) (x : Lk) (hx : x ∈ uses o) : used x = .at o :=
  When.isAt_eq (List.all_eq_true.mp (Op.forall (p := fun o => (uses o).all (fun x => (used x).isAt o) = true) (by decide +kernel) o) x hx)
def When.among (w : When) (f : Op → List Lk) (x : Lk) : Bool :=
  match w with
  | .at o => decide (x ∈ f o)
  | _ => true
theorem made_among : ∀ x, (made x).among makes x = true := Lk.forall (by decide +kernel)
theorem used_among : ∀ x, (used x).among uses x = true := Lk.forall (by decide +kernel)
theorem mem_makes (o : Op) (x : Lk) : x ∈ makes o ↔ made x = .at o :=
  ⟨makes_made o x, fun h => by have := made_among x; rw [h] at this; exact of_decide_eq_true this⟩
theorem mem_uses (o : Op) (x : Lk) : x ∈ uses o ↔ used x = .at o :=
  ⟨uses_used o x, fun h => by have := used_among x; rw [h] at this; exact of_decide_eq_true this⟩

/-- The links held before step `n`. -/
def Live (n : ℕ) : Finset Lk := Finset.univ.filter fun x => (made x).from ≤ n ∧ n ≤ (used x).upto

theorem mem_live {n : ℕ} {x : Lk} : x ∈ Live n ↔ (made x).from ≤ n ∧ n ≤ (used x).upto := by simp [Live]

theorem upto_eq {w : When} {o : Op} (hw : w ≠ .start) : w.upto = idx o ↔ w = .at o := by
  have := idx_lt o
  cases w with
  | start => exact absurd rfl hw
  | «at» o' => simp only [When.upto, idx_inj, When.at.injEq]
  | never => simp only [When.upto, reduceCtorEq, iff_false]; omega
theorem from_eq {w : When} {o : Op} : w.from = idx o + 1 ↔ w = .at o := by
  have := idx_lt o
  cases w with
  | start => simp [When.from]
  | «at» o' => simp [When.from, idx_inj]
  | never => simp only [When.from, reduceCtorEq, iff_false]; omega
theorem used_ne_start : ∀ x, used x ≠ .start := Lk.forall (by decide +kernel)

/-- The links a step leaves alone. -/
def Stay (o : Op) : Finset Lk := Finset.univ.filter fun x => (made x).from ≤ idx o ∧ idx o + 1 ≤ (used x).upto

theorem live_before (o : Op) : Live (idx o) = (uses o).toFinset ∪ Stay o := by
  ext x
  have h := made_before_used x
  have hu := upto_eq (o := o) (used_ne_start x)
  rw [Finset.mem_union, List.mem_toFinset, mem_uses, ← hu, mem_live, Stay, Finset.mem_filter]
  simp only [Finset.mem_univ, true_and]
  omega
theorem live_after (o : Op) : Live (idx o + 1) = (makes o).toFinset ∪ Stay o := by
  ext x
  have h := made_before_used x
  have hu := from_eq (w := made x) (o := o)
  rw [Finset.mem_union, List.mem_toFinset, mem_makes, ← hu, mem_live, Stay, Finset.mem_filter]
  simp only [Finset.mem_univ, true_and]
  omega
theorem uses_stay (o : Op) : Disjoint (uses o).toFinset (Stay o) := Finset.disjoint_left.mpr fun x hx hs => by
  rw [List.mem_toFinset, mem_uses, ← upto_eq (used_ne_start x)] at hx
  have := (Finset.mem_filter.mp hs).2.2; omega
theorem makes_stay (o : Op) : Disjoint (makes o).toFinset (Stay o) := Finset.disjoint_left.mpr fun x hx hs => by
  rw [List.mem_toFinset, mem_makes, ← from_eq] at hx
  have := (Finset.mem_filter.mp hs).2.1; omega

variable {M : Type} [URA M]

/-- The resources of a list, in order. -/
def sepL (Φ : Lk → sProp M) : List Lk → sProp M
  | [] => iprop(emp)
  | x :: l => iprop(Φ x ∗ sepL Φ l)

theorem sepL_eq (Φ : Lk → sProp M) : ∀ {l : List Lk}, l.Nodup → bigSep l.toFinset Φ = sepL Φ l
  | [], _ => by rw [List.toFinset_nil, bigSep_empty]; rfl
  | x :: l, h => by
    rw [List.toFinset_cons, bigSep_insert (by rw [List.mem_toFinset]; exact (List.nodup_cons.mp h).1), sepL_eq Φ (List.nodup_cons.mp h).2]; rfl

theorem bigSep_join {I : Type} [DecidableEq I] {s t : Finset I} (h : Disjoint s t) (Φ : I → sProp M) :
    bigSep (s ∪ t) Φ = iprop(bigSep s Φ ∗ bigSep t Φ) := bigSep_union h
theorem bigSep_take {I : Type} [DecidableEq I] {s : Finset I} {i : I} (h : i ∈ s) (Φ : I → sProp M) :
    bigSep s Φ = iprop(Φ i ∗ bigSep (s.erase i) Φ) := bigSep_erase h

/-- A step swaps the links it uses for those it makes. -/
theorem swap (Φ : Lk → sProp M) (o : Op) :
    bigSep (Live (idx o)) Φ ⊢ iprop(sepL Φ (uses o) ∗ (sepL Φ (makes o) -∗ bigSep (Live (idx o + 1)) Φ)) := by
  rw [live_before, live_after, bigSep_join (uses_stay o), bigSep_join (makes_stay o), sepL_eq Φ (uses_nodup o), sepL_eq Φ (makes_nodup o)]
  iintro ⟨HU, HS⟩
  isplitl [HU]; · iexact HU
  iintro HM
  isplitl [HM]; · iexact HM
  iexact HS

/-- A link in use can be looked at and put back. -/
theorem peek (Φ : Lk → sProp M) {n : ℕ} (x : Lk) (hx : x ∈ Live n) :
    bigSep (Live n) Φ ⊢ iprop(Φ x ∗ (Φ x -∗ bigSep (Live n) Φ)) := by
  rw [bigSep_take hx]
  iintro ⟨HU, HS⟩
  isplitl [HU]; · iexact HU
  iintro HM
  isplitl [HM]; · iexact HM
  iexact HS

/-- Every transfer is sent before its counterpart is awaited. -/
theorem send_before_wait : ∀ t, idx (.send t) < idx (.rw t) := by decide +kernel

end Cert.KernelIdeal.Hand
-- ==== Proof.Protocol.lean ====
/-
# The protocol

Every semaphore is a cell with one round. A send cell hands the sender its source back, a receive cell hands the
receiver the landed half chunk, a copy cell hands back source and copy, and the barrier cell hands a device the
landing slots of the neighbours it sends to.
-/
module

public import proofs.«01_k».proof.Proof.Contents
public import proofs.«01_k».proof.Proof.Links
public import Idealize.ShloMosaic.Lib.Rounds
public import Idealize.ShloMosaic.Rules.PointsTo

@[expose] public section

noncomputable section

namespace Cert.KernelIdeal.Hand

open Cert.KernelIdeal Cert.KernelIdeal.Gen
open Idealize.ShloMosaic Idealize.ShloMosaic.TcCoe
open Idealize.ShloMosaic.Pipeline
open Idealize.SL Idealize.SL.Sem Idealize.SL.RA Idealize.SL.BI Idealize.SL.ProofMode
open Idealize.SL.BI.BIBase
open Rounds

abbrev UB := URounds (GSem nD τ sig) (Fin 4)
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The runtime's barrier semaphore. -/
abbrev barS : Sem sig := (SemArray.scalar (sig.barrier 0 rfl) : Sems sig S_).sem
abbrev cell (c : Dev nD) (sm : SemLoc sig) : GSem nD τ sig := ((c : Thread nD τ), sm)
abbrev sCell (c : Dev nD) (t : T) : GSem nD τ sig := cell c (.dma (sS t))
abbrev rCell (c : Dev nD) (t : T) : GSem nD τ sig := cell c (.dma (rS t))
abbrev cCell (c : Dev nD) (i : Fin 4) : GSem nD τ sig := cell c (.dma (cS i))
abbrev bCell (c : Dev nD) : GSem nD τ sig := cell c (.reg barS)

/-- The credit of a half chunk, and of a whole one. -/
def NH : ℕ := (slot3 rbM 0 0).view.dmaCredit
def NC : ℕ := rcM.view.dmaCredit
theorem NH_pos : 0 < NH := View.dmaCredit_pos _ (by decide)
theorem NC_pos : 0 < NC := View.dmaCredit_pos _ (by decide)

/-! ## What is handed over -/

/-- The result slot of a relative name on device `c`, and that slot filled. -/
abbrev oSlot (c : Dev nD) (r : Rel) : Memref sig .tc .vmem S64x2048 .f32 := slot5 outM (ax c r) (az c r) (ay c r) r.h
def oPt (c : Dev nD) (q : PosShare TreeShare) (r : Rel) : sProp 𝕄 := owns (c : Thread nD τ) (oSlot c r) q (OutV m c r)

/-- The share of its source a transfer of the result holds. -/
def shr : T → PosShare TreeShare
  | .ag _ _ => fullShare.left
  | .ex _ _ => fullShare.right.left
  | .ez _ _ => fullShare.right.right
  | _ => fullShare

/-- The source of transfer `t` on device `c`. -/
def srcPt (c : Dev nD) (t : T) : sProp 𝕄 := match t with
  | .r0 h => owns (c : Thread nD τ) (slot5 pM (cx c) (zg c) (cy c) h) fullShare (P m c (cy c) h)
  | .rs s h => owns (c : Thread nD τ) (slot3 rbM s.castSucc h) fullShare (U m s.val c h)
  | t => oPt m c (shr t) (srcRel t)
/-- What has landed by transfer `t` into device `c`. -/
def rcvPt (c : Dev nD) (t : T) : sProp 𝕄 := match t with
  | .r0 h => owns (c : Thread nD τ) (slot3 rbM 0 h) fullShare (R m 0 c h)
  | .rs s h => owns (c : Thread nD τ) (slot3 rbM s.succ h) fullShare (R m (s.val + 1) c h)
  | t => oPt m c fullShare (rcvRel t)
/-- The place where transfer `t` lands on device `c`, with any contents. -/
def dstAny (c : Dev nD) (t : T) : sProp 𝕄 := match t with
  | .r0 h => iprop(∃ X, owns (c : Thread nD τ) (slot3 rbM 0 h) fullShare X)
  | .rs s h => iprop(∃ X, owns (c : Thread nD τ) (slot3 rbM s.succ h) fullShare X)
  | t => iprop(∃ X, owns (c : Thread nD τ) (oSlot c (rcvRel t)) fullShare X)

/-- The source, the place and the outcome of local copy `i`. -/
def cpSrc (c : Dev nD) (i : Fin 4) : sProp 𝕄 := match i with
  | 3 => owns (c : Thread nD τ) (chunk5 resM (cx c) (zg c) (cy c + 1)) fullShare (RC m c)
  | i => owns (c : Thread nD τ) (chunk5 pM (cx c) (zg c) (cy c - 1 - (Fin.ofNat 3 i.val).castSucc)) fullShare (PC m c (Fin.ofNat 3 i.val))
def cpAny (c : Dev nD) (i : Fin 4) : sProp 𝕄 := match i with
  | 3 => iprop(∃ X, owns (c : Thread nD τ) rcM fullShare X)
  | i => iprop(∃ X, owns (c : Thread nD τ) (chunk3 pbM (Fin.ofNat 3 i.val)) fullShare X)
def cpDone (c : Dev nD) (i : Fin 4) : sProp 𝕄 := match i with
  | 3 => owns (c : Thread nD τ) rcM fullShare (RC m c)
  | i => owns (c : Thread nD τ) (chunk3 pbM (Fin.ofNat 3 i.val)) fullShare (PC m c (Fin.ofNat 3 i.val))

/-- Which of the four barrier signals a device sends hands over the place where transfer `t` lands: the one to the device
    that sends `t` to it. -/
def cls : T → Fin 4
  | .r0 _ | .rs _ _ | .ag _ _ => 0
  | .ex _ _ | .fx _ => 2
  | .ez _ _ | .fz _ => 3
/-- The device each barrier signal goes to. -/
def payee (d : Fin 4) (c : Dev nD) : Dev nD := match d with
  | 0 => left c | 1 => right c | 2 => xpeer c | 3 => zpair c
def payer (d : Fin 4) (c : Dev nD) : Dev nD := match d with
  | 0 => right c | 1 => left c | 2 => xpeer c | 3 => zpair c
theorem payer_payee (d : Fin 4) (c : Dev nD) : payer d (payee d c) = c := by revert d c; decide +kernel
theorem payee_payer (d : Fin 4) (c : Dev nD) : payee d (payer d c) = c := by revert d c; decide +kernel
theorem dst_payee (t : T) (c : Dev nD) : dst t (payee (cls t) c) = c := by revert t c; decide +kernel

/-- The places device `c` receives by barrier duty `d`. -/
def barPay (c : Dev nD) (d : Fin 4) : sProp 𝕄 := bigSep (Finset.univ.filter fun t => cls t = d) fun t => dstAny (dst t c) t

instance oPt_storable (c : Dev nD) (q) (r : Rel) : BI.Storable (upEmb : UEmb _ 𝕄) (oPt (F := F) m c q r) := by unfold oPt; infer_instance
instance srcPt_storable (c : Dev nD) (t : T) : BI.Storable (upEmb : UEmb _ 𝕄) (srcPt (F := F) m c t) := by
  cases t <;> (dsimp only [srcPt]; infer_instance)
instance rcvPt_storable (c : Dev nD) (t : T) : BI.Storable (upEmb : UEmb _ 𝕄) (rcvPt (F := F) m c t) := by
  cases t <;> (dsimp only [rcvPt]; infer_instance)
omit [FloatOps F] in
instance dstAny_storable (c : Dev nD) (t : T) : BI.Storable (upEmb : UEmb _ 𝕄) (dstAny (F := F) c t) := by
  cases t <;> (dsimp only [dstAny]; infer_instance)
omit [FloatOps F] in
instance cpSrc_storable (c : Dev nD) (i : Fin 4) : BI.Storable (upEmb : UEmb _ 𝕄) (cpSrc (F := F) m c i) := by
  unfold cpSrc; split <;> infer_instance
omit [FloatOps F] in
instance cpDone_storable (c : Dev nD) (i : Fin 4) : BI.Storable (upEmb : UEmb _ 𝕄) (cpDone (F := F) m c i) := by
  unfold cpDone; split <;> infer_instance
omit [FloatOps F] in
instance barPay_storable (c : Dev nD) (d : Fin 4) : BI.Storable (upEmb : UEmb _ 𝕄) (barPay (F := F) c d) := by
  unfold barPay; infer_instance

/-! ## The schedule -/

def rolePay (c : Dev nD) (d : Fin 4) : Role → sProp 𝕄
  | .snd t => srcPt m c t
  | .rcv t => rcvPt m c t
  | .cpy i => iprop(cpDone m c i ∗ cpSrc m c i)
  | .none => barPay c d
def roleAmt : Role → ℕ
  | .snd _ | .rcv _ => NH
  | .cpy _ => NC
  | .none => 1
/-- The duties of a cell's round: four units from the neighbours at the barrier, one transfer at a semaphore in use. -/
def dutiesOf (sm : SemLoc sig) : Finset (Fin 4) := match sm with
  | .reg s => if s = barS then Finset.univ else ∅
  | .dma _ => if role sm = .none then ∅ else {0}

def ringRd : Rounds.Schedule (GSem nD τ sig) (Fin 4) 𝕄 where
  duties g r := if r = 0 ∧ g.1.2 = .tc then dutiesOf g.2 else ∅
  unitless _ := False
  amount g _ _ := roleAmt (role g.2)
  payload g _ d := rolePay m g.1.1 d (role g.2)
  amount_pos g _ _ _ := by
    show 0 < roleAmt (role g.2)
    cases role g.2
    · exact NH_pos
    · exact NH_pos
    · exact NC_pos
    · exact Nat.one_pos

instance rolePay_storable (c : Dev nD) (d : Fin 4) (r : Role) : BI.Storable (upEmb : UEmb _ 𝕄) (rolePay (F := F) m c d r) := by
  cases r <;> (dsimp only [rolePay]; infer_instance)
instance ringRd_payload_storable (g : GSem nD τ sig) (r : ℕ) (d : Fin 4) :
    BI.Storable (upEmb : UEmb _ 𝕄) ((ringRd (F := F) m).payload g r d) := rolePay_storable m g.1.1 d (role g.2)

/-- A semaphore that takes part in a transfer or a copy. -/
theorem duties_role (c : Dev nD) {q : DmaSem sig} (h : role (.dma q) ≠ .none) : (ringRd (F := F) m).duties (cell c (.dma q)) 0 = {0} := by
  dsimp only [ringRd]; rw [if_pos ⟨rfl, rfl⟩]; exact if_neg h
theorem duties_unused (c : Dev nD) {q : DmaSem sig} (h : role (.dma q) = .none) (r : ℕ) : (ringRd (F := F) m).duties (cell c (.dma q)) r = ∅ := by
  dsimp only [ringRd]; split
  · exact if_pos h
  · rfl
theorem duties_bar (c : Dev nD) : (ringRd (F := F) m).duties (bCell c) 0 = Finset.univ := by
  dsimp only [ringRd, dutiesOf]; rw [if_pos ⟨rfl, rfl⟩, if_pos rfl]
theorem duties_later (g : GSem nD τ sig) : ∀ r, 1 ≤ r → (ringRd (F := F) m).duties g r = ∅ :=
  fun r hr => by dsimp only [ringRd]; exact if_neg fun h => by omega

theorem expect_role (c : Dev nD) {q : DmaSem sig} (h : role (.dma q) ≠ .none) : (ringRd (F := F) m).expect (cell c (.dma q)) 0 = roleAmt (role (.dma q)) := by
  unfold Schedule.expect Schedule.amountOf; rw [duties_role m c h, Finset.sum_singleton]; rfl
theorem expect_bar (c : Dev nD) : (ringRd (F := F) m).expect (bCell c) 0 = 4 := by
  unfold Schedule.expect Schedule.amountOf
  rw [duties_bar]; rfl
theorem rest_role (c : Dev nD) {q : DmaSem sig} (h : role (.dma q) ≠ .none) :
    bigSep ((ringRd (F := F) m).duties (cell c (.dma q)) 0 \ ∅) (fun d => (ringRd (F := F) m).payload (cell c (.dma q)) 0 d) = rolePay m c 0 (role (.dma q)) := by
  rw [Finset.sdiff_empty, duties_role m c h, bigSep_singleton]; rfl
theorem rest_bar (c : Dev nD) :
    bigSep ((ringRd (F := F) m).duties (bCell c) 0 \ ∅) (fun d => (ringRd (F := F) m).payload (bCell c) 0 d) = bigSep Finset.univ (barPay (F := F) c) := by
  rw [Finset.sdiff_empty, duties_bar]; rfl

/-! ## What a device owes; the levels -/

/-- The arrivals still owed before step `n`. -/
def Osum (c : Dev nD) (S : Finset T) : CellTallies nD τ sig Unit := ∑ t ∈ S, tallyAt (rCell (dst t c) t) () NH
def Pend (n : ℕ) : Finset T := Finset.univ.filter fun t => n ≤ idx (.send t)
def O (c : Dev nD) (n : ℕ) : CellTallies nD τ sig Unit := Osum c (Pend n)
def L (g : GSem nD τ sig) : Finset Unit := if g.1.2 = .tc then {()} else ∅
/-- A receive cell lies the higher the later its transfer is sent; the barrier lies below all of them, and everything else below the barrier. -/
def lvR : Role → ℕ
  | .rcv t => 2 + idx (.send t)
  | _ => 0
def lv (g : GSem nD τ sig) (_ : Unit) : ℕ := if g.2 = .reg barS then 1 else lvR (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (q : DmaSem sig) : lv (cell c (.dma q)) () = lvR (role (.dma q)) := if_neg (fun h => by cases h)

theorem Osum_pos {c : Dev nD} {S : Finset T} {g : GSem nD τ sig} {u : Unit} (h : 0 < Osum c S g u) : ∃ t ∈ S, g = rCell (dst t c) t := by
  classical
  induction S using Finset.induction_on with
  | empty => exact absurd h (Nat.lt_irrefl 0)
  | insert t S ht ih =>
    rw [Osum, Finset.sum_insert ht, Pi.add_apply, Finsupp.add_apply, tallyAt_apply] at h
    by_cases he : g = rCell (dst t c) t ∧ u = ()
    · exact ⟨t, Finset.mem_insert_self _ _, he.1⟩
    · rw [if_neg he, zero_add] at h
      obtain ⟨t', ht', e⟩ := ih h
      exact ⟨t', Finset.mem_insert_of_mem ht', e⟩

omit [FloatOps F] in
/-- A wait at a level below every pending arrival is allowed. -/
theorem mayWait (c : Dev nD) (sm : SemLoc sig) (n : ℕ) (h : lv (cell c sm) () < 2 + n) :
    (levAts L lv : sProp 𝕄) ⊢ MayWait (c : Thread nD τ) sm () (O c n) :=
  MayOwe.of_cut (L := L) (lev := lv) (lv (cell c sm) ())
    (fun p hp => by rw [Finset.mem_singleton.mp hp, L_tc]; exact Finset.mem_singleton_self _)
    (fun g u hg => by obtain ⟨t, -, rfl⟩ := Osum_pos hg; exact Finset.mem_singleton_self _)
    (fun p hp => by rw [Finset.mem_singleton.mp hp])
    (fun g u hg => by
      obtain ⟨t, ht, rfl⟩ := Osum_pos hg
      rw [lv_dma, role_rS]
      have := (Finset.mem_filter.mp ht).2
      show _ < 2 + idx (.send t); omega)

theorem O_send (c : Dev nD) (t : T) : O c (idx (.send t)) = O c (idx (.send t) + 1) + tallyAt (rCell (dst t c) t) () NH := by
  have e : Pend (idx (.send t)) = insert t (Pend (idx (.send t) + 1)) := by
    ext t'
    rw [Finset.mem_insert, Pend, Pend, Finset.mem_filter, Finset.mem_filter]
    have h : idx (.send t') = idx (.send t) ↔ t' = t := idx_inj.trans ⟨fun h => Op.send.inj h, fun h => h ▸ rfl⟩
    simp only [Finset.mem_univ, true_and, ← h]; omega
  rw [O, e, Osum, Finset.sum_insert (by rw [Pend, Finset.mem_filter]; omega), add_comm]; rfl
theorem O_other (c : Dev nD) (o : Op) (h : ∀ t, o ≠ .send t) : O c (idx o) = O c (idx o + 1) := by
  have e : Pend (idx o) = Pend (idx o + 1) := by
    ext t'
    rw [Pend, Pend, Finset.mem_filter, Finset.mem_filter]
    have h' : idx (.send t') ≠ idx o := fun e => h t' (idx_inj.mp e).symm
    simp only [Finset.mem_univ, true_and]; omega
  rw [O, e]; rfl
theorem O_end (c : Dev nD) : O c 122 = 0 := by
  have e : Pend 122 = ∅ := by
    ext t'; rw [Pend, Finset.mem_filter]
    have := idx_lt (.send t'); simp; omega
  rw [O, e]; rfl

/-! ## The state between two steps -/

/-- What a link stands for. -/
def φ (c : Dev nD) : Lk → sProp 𝕄
  | .tok t => iprop(dutyTok ER (sCell c t) 0 0 ∗ dutyTok ER (rCell (dst t c) t) 0 0 ∗ dstAny (dst t c) t)
  | .rcr t => cred (tallyAt (rCell c t) () NH)
  | .src t => srcPt m c t
  | .scr t => cred (tallyAt (sCell c t) () NH)
  | .back t => srcPt m c t
  | .fin t => match t with
    | .ag s h => if s = 2 then oPt m c fullShare.left ⟨0, 0, 3, h⟩ else iprop(emp)
    | .ex k h => if h = 0 then iprop(emp) else rcvPt m c (.ex k h)
    | .ez k h => if h = 1 then iprop(emp) else rcvPt m c (.ez k h)
    | .fz k => rcvPt m c (.fz k)
    | .fx k => rcvPt m c (.fx k)
    | _ => iprop(emp)
  | .pos i => atPos ER (cell c (osem i)) 0 ∅ 0
  | .zero i => semVal (cell c (osem i)) 0
  | .raw s h => owns (c : Thread nD τ) (slot3 rbM s h) fullShare (R m s.val c h)
  | .rawE h => owns (c : Thread nD τ) (slot3 rbM 2 h) fullShare (R m 2 c h)
  | .pb k h | .pbE k h => owns (c : Thread nD τ) (slot3 pbM k h) fullShare (PB m c k.val h)
  | .rc h | .rcE h => owns (c : Thread nD τ) (slot2 rcM h) fullShare (RR m c h)
  | .ctok i => iprop(dutyTok ER (cCell c i) 0 0 ∗ cpSrc m c i ∗ cpAny c i)
  | .ccr i => cred (tallyAt (cCell c i) () NC)
  | .cbk i => cpSrc m c i
  | .own0 h => iprop(∃ X, owns (c : Thread nD τ) (oSlot c ⟨0, 0, 0, h⟩) fullShare X)

/-- The semaphores of a device that are cells: its own ones and the barrier. -/
abbrev csem : Option (Fin 92) → SemLoc sig
  | .some i => osem i
  | .none => .reg barS
/-- What every device may use of a cell at any time. -/
def known (ck : Dev nD × Option (Fin 92)) : sProp 𝕄 :=
  iprop((∃ κ, cellInv ER (ringRd m) κ (cell ck.1 (csem ck.2))) ∗ reached ER (cell ck.1 (csem ck.2)) 0)
instance known_persistent (ck) : BI.Persistent (known (F := F) m ck) := by unfold known; infer_instance
def ctx : sProp 𝕄 := iprop(bigSep Finset.univ (known (F := F) m) ∗ levAts L lv)
instance ctx_persistent : BI.Persistent (ctx (F := F) m) := by unfold ctx; infer_instance

/-- The state of device `c` before step `n`. -/
def St (c : Dev nD) (n : ℕ) : sProp 𝕄 :=
  iprop(ctx m ∗ owns (c : Thread nD τ) gM fullShare (gA m c) ∗ (∃ W, owes (c : Thread nD τ) (O c n) W) ∗ bigSep (Live n) (φ m c))

end Cert.KernelIdeal.Hand
-- ==== Proof.Steps.lean ====
/-
# One rule per kind of step

Each rule takes the state before step `n` to the state before step `n + 1` across one operation of the kernel.
-/
module

public import proofs.«01_k».proof.Proof.Protocol

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none
/-- A device's run of a program to a postcondition. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem sne (t : T) : role (.dma (sS t)) ≠ .none := by rw [role_sS t]; exact fun h => by cases h
theorem rne (t : T) : role (.dma (rS t)) ≠ .none := by rw [role_rS t]; exact fun h => by cases h
theorem cne (i : Fin 4) : role (.dma (cS i)) ≠ .none := by rw [role_cS i]; exact fun h => by cases h

/-! ## What a device knows of a cell -/

theorem ctx_own (c : Dev nD) (i : Fin 92) {q : DmaSem sig} (h : osem i = .dma q) :
    ctx (F := F) m ⊢ iprop((∃ κ, cellInv ER (ringRd m) κ (cell c (.dma q))) ∗ reached ER (cell c (.dma q)) 0) := by
  rw [← h]; unfold ctx
  iintro ⟨H, -⟩
  ihave H := (show bigSep Finset.univ (known (F := F) m) ⊢ known (F := F) m (c, some i) from bigSep_elim (Finset.mem_univ _)) $$ H
  unfold known
  iexact H
theorem ctx_bar (c : Dev nD) :
    ctx (F := F) m ⊢ iprop((∃ κ, cellInv ER (ringRd m) κ (bCell c)) ∗ reached ER (bCell c) 0) := by
  unfold ctx
  iintro ⟨H, -⟩
  ihave H := (show bigSep Finset.univ (known (F := F) m) ⊢ known (F := F) m (c, none) from bigSep_elim (Finset.mem_univ _)) $$ H
  unfold known
  iexact H
theorem ctx_wait (c : Dev nD) (sm : SemLoc sig) (n : ℕ) (h : lv (cell c sm) () < 2 + n) :
    ctx (F := F) m ⊢ MayWait (c : Thread nD τ) sm () (O c n) := by
  unfold ctx
  iintro ⟨-, H⟩
  iapply (mayWait c sm n h)
  iexact H

omit [FloatOps F] in
theorem owns_open (c : Dev nD) {sp : Space} {s : Shape} {e : EltTy} (M : Memref sig .tc sp s e) (q : PosShare TreeShare) (X : s.Idx → Elt F e) :
    (owns (c : Thread nD τ) M q X : sProp 𝕄)
      ⊢ iprop(∃ f : Buf (Elt F) (M.view.loc (c : Thread nD τ)), ⌜M.view.read (Elt F) f = X⌝ ∗ M.view.loc (c : Thread nD τ) ↦[M.view.set]{q} f) :=
  Entails.refl _

variable {α : Type}

/-! ## Sends -/

theorem step_send (c : Dev nD) (t : T) {n : ℕ} (hn : idx (.send t) = n) {sp : Space} {src : Memref sig .tc sp S64x2048 .f32}
    {dm : Memref sig .tc .vmem S64x2048 .f32} {q : PosShare TreeShare} {X : Vec F S64x2048 .f32}
    (h1 : srcPt m c t = owns (c : Thread nD τ) src q X)
    (h2 : dstAny (F := F) (dst t c) t = iprop(∃ Y, owns (dst t c : Thread nD τ) dm fullShare Y))
    (h3 : rcvPt m (dst t c) t = owns (dst t c : Thread nD τ) dm fullShare X) (hN : dm.view.dmaCredit = NH)
    {e : Dev nD} (he : e = dst t c) {s₁ s₂ : DmaSem sig} (hs₁ : s₁ = sS t) (hs₂ : s₂ = rS t)
    {hsc : (dm : Memref sig (Dev.tc e : Thread nD τ).2.kind .vmem S64x2048 .f32).view.ref.isScScratch = false}
    {hsrc : src.view.WordExact} {hdst : dm.view.WordExact}
    {hsem : DmaTarget.Typed sp (.dma s₂) (.remote (Dev.tc e : Thread nD τ) dm (.dma s₁) hsc)}
    {k : PUnit → Prog (TpuEff nD τ sig (Elt F) Λ₀ .tc) α} {Q : α → sProp 𝕄} (H : St m c (n + 1) ⊢ run c (k ⟨⟩) Q) :
    St m c n ⊢ run c (.op (.enqueueDma src (.remote (Dev.tc e : Thread nD τ) dm (.dma s₁) hsc) (.dma s₂) hsrc hdst hsem) k) Q := by
  subst hn he hs₁ hs₂
  rw [St]
  iintro ⟨#Hctx, Hg, ⟨%W, HO⟩, HL⟩
  ihave HL := (swap (φ m c) (.send t)) $$ HL
  simp only [uses, makes, sepL, φ]
  icases HL with ⟨⟨⟨HtS, HtV, HD⟩, HS, -⟩, Hback⟩
  ihave #⟨⟨%κ₁, HI1⟩, Hr1⟩ := (ctx_own m c (sI t) (osem_sI t)) $$ Hctx
  ihave #⟨⟨%κ₂, HI2⟩, Hr2⟩ := (ctx_own m (dst t c) (rI t) (osem_rI t)) $$ Hctx
  ihave HS := ((Entails.of_eq h1).trans (owns_open c src q X)) $$ HS
  ihave HD := (Entails.of_eq h2) $$ HD
  icases HS with ⟨%fs, %hfs, HS⟩
  icases HD with ⟨%Y, HD⟩
  ihave HD := (owns_open (dst t c) dm fullShare Y) $$ HD
  icases HD with ⟨%fd, -, HD⟩
  iapply (Rounds.wp_send_pointsTo 𝒱₀ ER (ringRd m) (c : Thread nD τ) none (κ₁ := κ₁) (κ₂ := κ₂) (c' := (dst t c : Thread nD τ))
    (r₁ := 0) (r₂ := 0) (d₁ := 0) (d₂ := 0) (fd := fd) (fs := fs) (q := q)
    (by rw [duties_role m c (sne t)]; exact Finset.mem_singleton_self _)
    (by rw [duties_role m (dst t c) (rne t)]; exact Finset.mem_singleton_self _)
    () () NH (show dm.view.amount (.dma (rS t)) = NH from hN) (by show roleAmt (role (.dma (sS t))) = _; rw [role_sS]; rfl) (by show roleAmt (role (.dma (rS t))) = _; rw [role_rS]; rfl)
    (O c (idx (.send t) + 1)) (O_send c t) (W := W) (hr := by routes)
    (by show _ ⊢ rolePay m c 0 (role (.dma (sS t))); rw [role_sS]; show _ ⊢ srcPt m c t; rw [h1, ← hfs]; exact owns_intro (c : Thread nD τ) src q fs)
    (by
      show _ ⊢ rolePay m (dst t c) 0 (role (.dma (rS t))); rw [role_rS]; show _ ⊢ rcvPt m (dst t c) t
      rw [h3, ← hfs]
      refine (owns_intro (dst t c : Thread nD τ) dm fullShare _).trans (Entails.of_eq ?_)
      rw [View.read_write_univ])) $$ [HS HD HO HtS HtV]
  · isplitr; · iexact HI1
    isplitr; · iexact HI2
    isplitl [HS]; · iexact HS
    isplitl [HD]; · iexact HD
    isplitl [HO]; · iexact HO
    isplitl [HtS]; · iexact HtS
    isplitr; · iexact Hr1
    isplitl [HtV]; · iexact HtV
    iexact Hr2
  iintro ⟨HcS, HO⟩
  iapply H
  rw [St]
  isplitr; · iexact Hctx
  isplitl [Hg]; · iexact Hg
  isplitl [HO]; · iexists W; iexact HO
  iapply Hback
  isplitl [HcS]; · iexact HcS
  iempintro

theorem slot_eq {sp : Space} (M : Memref sig .tc sp S2x2x4x128x2048 .f32) {off : Fin 5 → ℕ} {a z : Fin 2} {j : Fin 4} {h : Fin 2} (ho : off = off5 a z j h)
    (hb : ∀ a, off a + S1x1x1x64x2048.size a ≤ S2x2x4x128x2048.size a) :
    ((M.slice (Rect.unit off S1x1x1x64x2048.size hb) (fun _ => rfl)).squeeze S64x2048 squeezes_S1x1x1x64x2048_S64x2048) = slot5 M a z j h := by
  subst ho; rfl

theorem credit_slot5 (a z : Fin 2) (j : Fin 4) (h : Fin 2) : (slot5 outM a z j h).view.dmaCredit = NH := rfl
theorem credit_slot3 (k : Fin 3) (h : Fin 2) : (slot3 rbM k h).view.dmaCredit = NH := rfl

/-- A part of the result, from slot to slot. -/
theorem step_out (c : Dev nD) (t : T) (ht : t.out = true) {n : ℕ} (hn : idx (.send t) = n)
    {off : Dev nD → Fin 5 → ℕ} (ho : ∀ c, off c = off5 (ax c (srcRel t)) (az c (srcRel t)) (ay c (srcRel t)) (srcRel t).h)
    {e : Dev nD → ℕ} {he' : e c < nD} (he : ∀ c, e c = (dst t c).val)
    {hb hb' : ∀ a, off c a + S1x1x1x64x2048.size a ≤ S2x2x4x128x2048.size a}
    {s₁ s₂ : DmaSem sig} (hs₁ : s₁ = sS t) (hs₂ : s₂ = rS t) {hsc} {hsrc} {hdst} {hsem}
    {k : PUnit → Prog (TpuEff nD τ sig (Elt F) Λ₀ .tc) α} {Q : α → sProp 𝕄} (H : St m c (n + 1) ⊢ run c (k ⟨⟩) Q) :
    St m c n ⊢ run c (.op (.enqueueDma
      ((outM.slice (Rect.unit (off c) S1x1x1x64x2048.size hb) (fun _ => rfl)).squeeze S64x2048 squeezes_S1x1x1x64x2048_S64x2048)
      (.remote (Dev.tc (⟨e c, he'⟩ : Dev nD) : Thread nD τ)
        ((outM.slice (Rect.unit (off c) S1x1x1x64x2048.size hb') (fun _ => rfl)).squeeze S64x2048 squeezes_S1x1x1x64x2048_S64x2048) (.dma s₁) hsc)
      (.dma s₂) hsrc hdst hsem) k) Q := by
  have hp := place t ht c
  have hd : ((outM.slice (Rect.unit (off c) S1x1x1x64x2048.size hb') (fun _ => rfl)).squeeze S64x2048 squeezes_S1x1x1x64x2048_S64x2048)
      = oSlot (dst t c) (rcvRel t) :=
    slot_eq outM ((ho c).trans (by rw [hp.1, hp.2.1, hp.2.2.1, hp.2.2.2.2])) hb'
  have hs : ((outM.slice (Rect.unit (off c) S1x1x1x64x2048.size hb) (fun _ => rfl)).squeeze S64x2048 squeezes_S1x1x1x64x2048_S64x2048)
      = oSlot c (srcRel t) := slot_eq outM (ho c) hb
  have hX : OutV m (dst t c) (rcvRel t) = OutV m c (srcRel t) := by
    unfold OutV; rw [hp.2.2.2.1, hp.2.2.2.2]
  refine step_send m c t hn (q := shr t) (X := OutV m c (srcRel t)) ?_ ?_ ?_ (hd ▸ credit_slot5 _ _ _ _) (Fin.ext (he c)) hs₁ hs₂ H
  · rw [hs]; cases t <;> first | rfl | exact absurd ht Bool.false_ne_true
  · rw [hd]; cases t <;> first | rfl | exact absurd ht Bool.false_ne_true
  · rw [hd, ← hX]; cases t <;> first | rfl | exact absurd ht Bool.false_ne_true

/-- A device's own chunk, from its argument into its right neighbour's ring buffer. -/
theorem step_r0 (c : Dev nD) (h : Fin 2) {n : ℕ} (hn : idx (.send (.r0 h)) = n)
    {off : Dev nD → Fin 5 → ℕ} (ho : ∀ c, off c = off5 (cx c) (zg c) (cy c) h)
    {e : Dev nD → ℕ} {he' : e c < nD} (he : ∀ c, e c = (right c).val)
    {hb : ∀ a, off c a + S1x1x1x64x2048.size a ≤ S2x2x4x128x2048.size a}
    {s₁ s₂ : DmaSem sig} (hs₁ : s₁ = sS (.r0 h)) (hs₂ : s₂ = rS (.r0 h)) {hsc} {hsrc} {hdst} {hsem}
    {k : PUnit → Prog (TpuEff nD τ sig (Elt F) Λ₀ .tc) α} {Q : α → sProp 𝕄} (H : St m c (n + 1) ⊢ run c (k ⟨⟩) Q) :
    St m c n ⊢ run c (.op (.enqueueDma
      ((pM.slice (Rect.unit (off c) S1x1x1x64x2048.size hb) (fun _ => rfl)).squeeze S64x2048 squeezes_S1x1x1x64x2048_S64x2048)
      (.remote (Dev.tc (⟨e c, he'⟩ : Dev nD) : Thread nD τ) (slot3 rbM 0 h) (.dma s₁) hsc) (.dma s₂) hsrc hdst hsem) k) Q := by
  have hs : ((pM.slice (Rect.unit (off c) S1x1x1x64x2048.size hb) (fun _ => rfl)).squeeze S64x2048 squeezes_S1x1x1x64x2048_S64x2048)
      = slot5 pM (cx c) (zg c) (cy c) h := slot_eq pM (ho c) hb
  have e0 : R m 0 (right c) h = P m c (cy c) h := by rw [R, left_right]
  refine step_send m c (.r0 h) hn (q := fullShare) (X := P m c (cy c) h) ?_ ?_ ?_ (credit_slot3 0 h) (Fin.ext (he c)) hs₁ hs₂ H
  · rw [hs]; rfl
  · rfl
  · exact congrArg (owns ((right c : Dev nD) : Thread nD τ) (slot3 rbM 0 h) fullShare) e0

/-- A running sum, from one slot of the ring buffer into the next of the right neighbour's. -/
theorem step_rs (c : Dev nD) (s h : Fin 2) {n : ℕ} (hn : idx (.send (.rs s h)) = n)
    {e : Dev nD → ℕ} {he' : e c < nD} (he : ∀ c, e c = (right c).val)
    {s₁ s₂ : DmaSem sig} (hs₁ : s₁ = sS (.rs s h)) (hs₂ : s₂ = rS (.rs s h)) {hsc} {hsrc} {hdst} {hsem}
    {k : PUnit → Prog (TpuEff nD τ sig (Elt F) Λ₀ .tc) α} {Q : α → sProp 𝕄} (H : St m c (n + 1) ⊢ run c (k ⟨⟩) Q) :
    St m c n ⊢ run c (.op (.enqueueDma (slot3 rbM s.castSucc h)
      (.remote (Dev.tc (⟨e c, he'⟩ : Dev nD) : Thread nD τ) (slot3 rbM s.succ h) (.dma s₁) hsc) (.dma s₂) hsrc hdst hsem) k) Q := by
  have e1 : R m (s.val + 1) (right c) h = U m s.val c h := by rw [R, left_right, U]
  exact step_send m c (.rs s h) hn (q := fullShare) (X := U m s.val c h) rfl rfl
    (congrArg (owns ((right c : Dev nD) : Thread nD τ) (slot3 rbM s.succ h) fullShare) e1) (credit_slot3 s.succ h) (Fin.ext (he c)) hs₁ hs₂ H

/-! ## Waits -/

theorem wait_core (c : Dev nD) (i : Fin 92) {q : DmaSem sig} (hq : osem i = .dma q) (hr : role (.dma q) ≠ .none) (n : ℕ)
    (hlv : lvR (role (.dma q)) < 2 + n) {N : ℕ} (hN : roleAmt (role (.dma q)) = N) {sp sp' : Space} {s s' : Shape} {e e' : EltTy}
    {srcm : Memref sig .tc sp' s' e'} {dstm : Memref sig .tc sp s e} (hamt : dstm.view.dmaCredit = N) {hs : srcm.view.WordExact} {hd : dstm.view.WordExact}
    {k : PUnit → Prog (TpuEff nD τ sig (Elt F) Λ₀ .tc) α} {Q : α → sProp 𝕄} :
    iprop(ctx m ∗ cred (tallyAt (cell c (.dma q)) () N) ∗ (∃ W, owes (c : Thread nD τ) (O c n) W) ∗ atPos ER (cell c (osem i)) 0 ∅ 0)
      ⊢ iprop((((∃ W, owes (c : Thread nD τ) (O c n) W) ∗ semVal (cell c (osem i)) 0 ∗ rolePay m c 0 (role (.dma q))) -∗ run c (k ⟨⟩) Q)
        -∗ run c (.op (.waitDma2 q srcm dstm hs hd) k) Q) := by
  subst hamt
  rw [hq]
  iintro ⟨#Hctx, Hc, ⟨%W, HO⟩, Hat⟩ Hk
  ihave #⟨⟨%κ, HI⟩, Hr⟩ := (ctx_own m c i hq) $$ Hctx
  have hl : lv (cell c (.dma q)) () < 2 + n := lt_of_eq_of_lt (lv_dma c q) hlv
  have hmw := ctx_wait m c (.dma q) n hl
  iapply (Rounds.wp_wait_rest_token 𝒱₀ ER (ringRd m) (c : Thread nD τ) none (κ := κ)
      (wpE_waitDma2_eq 𝒱₀ (c : Thread nD τ) none Set.univ) (Set.mem_univ _) () (O := O c n) (W := W) (R := 0) (m := 0) (T := ∅)
      (by rw [Nat.zero_add, expect_role m c hr, hN])) $$ [Hc HO Hat]
  · isplitr; · iexact HI
    isplitl [Hc]; · iexact Hc
    isplitl [HO]; · iexact HO
    isplitr; · (iapply hmw; iexact Hctx)
    iexact Hat
  iintro ⟨HO, Hat, -, Hpay⟩
  ihave Hp := (Entails.of_eq (rest_role m c hr)) $$ Hpay
  imod (Rounds.cell_close ER (ringRd m) (Set.mem_univ κ) (fun h => h) (R := 0 + 1) (duties_later m (cell c (.dma q)))) $$ [Hat] with Hz
  · isplitr; · iexact HI
    iexact Hat
  iapply Hk
  isplitl [HO]; · iexists _; iexact HO
  isplitl [Hz]; · iexact Hz
  iexact Hp

/-- The sending side: the source comes back. -/
theorem step_sw (c : Dev nD) (t : T) {n : ℕ} (hn : idx (.sw t) = n) {q : DmaSem sig} (hq : q = sS t) {sp sp' : Space} {s s' : Shape} {e e' : EltTy}
    {srcm : Memref sig .tc sp' s' e'} {dstm : Memref sig .tc sp s e} (hamt : dstm.view.dmaCredit = NH) {hs : srcm.view.WordExact} {hd : dstm.view.WordExact}
    {k : PUnit → Prog (TpuEff nD τ sig (Elt F) Λ₀ .tc) α} {Q : α → sProp 𝕄} (H : St m c (n + 1) ⊢ run c (k ⟨⟩) Q) :
    St m c n ⊢ run c (.op (.waitDma2 q srcm dstm hs hd) k) Q := by
  subst hn hq
  rw [St]
  iintro ⟨#Hctx, Hg, HO, HL⟩
  ihave HL := (swap (φ m c) (.sw t)) $$ HL
  simp only [uses, makes, sepL, φ]
  icases HL with ⟨⟨Hat, Hc, -⟩, Hback⟩
  iapply (wait_core m c (sI t) (osem_sI t) (sne t) (idx (.sw t)) (by rw [role_sS]; show 0 < _; omega) (N := NH) (by rw [role_sS]; rfl) hamt) $$ [Hc HO Hat]
  · isplitr; · iexact Hctx
    isplitl [Hc]; · iexact Hc
    isplitl [HO]; · iexact HO
    iexact Hat
  iintro ⟨HO, Hz, Hp⟩
  rw [role_sS, O_other c (.sw t) (fun _ h => by cases h)]
  ihave Hp := (show rolePay m c 0 (.snd t) ⊢ srcPt m c t from Entails.refl _) $$ Hp
  iapply H
  rw [St]
  isplitr; · iexact Hctx
  isplitl [Hg]; · iexact Hg
  isplitl [HO]; · iexact HO
  iapply Hback
  isplitl [Hz]; · iexact Hz
  isplitl [Hp]; · iexact Hp
  iempintro

omit [FloatOps F] in
theorem owns_share (c : Dev nD) {sp : Space} {s : Shape} {e : EltTy} (M : Memref sig .tc sp s e) (q : PosShare TreeShare) (X : s.Idx → Elt F e) :
    (owns (c : Thread nD τ) M q X : sProp 𝕄) ⊢ iprop(owns (c : Thread nD τ) M q.left X ∗ owns (c : Thread nD τ) M q.right X) := by
  unfold owns
  iintro ⟨%f, %hf, H⟩
  ihave H := (pointsTo_share (PosShare.mem_left_op_right q)).1 $$ H
  icases H with ⟨H1, H2⟩
  isplitl [H1]
  · iexists f; isplitr; · (ipureintro; exact hf)
    iexact H1
  · iexists f; isplitr; · (ipureintro; exact hf)
    iexact H2

/-- A finished half chunk is shared among the three transfers that read it. -/
theorem share3 (c : Dev nD) (r : Rel) :
    oPt m c fullShare r ⊢ iprop(oPt m c fullShare.left r ∗ oPt m c fullShare.right.left r ∗ oPt m c fullShare.right.right r) := by
  unfold oPt
  exact (owns_share c _ _ _).trans (sep_mono_right (owns_share c _ _ _))

omit [FloatOps F] in
theorem pad (A : sProp 𝕄) : A ⊢ iprop(A ∗ emp) := by iintro H; isplitl [H]; (· iexact H); iempintro
omit [FloatOps F] in
theorem padL (A : sProp 𝕄) : A ⊢ iprop(emp ∗ A) := by iintro H; isplitr; (· iempintro); iexact H
omit [FloatOps F] in
theorem pad3 (A B C : sProp 𝕄) : iprop(A ∗ B ∗ C) ⊢ iprop(A ∗ B ∗ C ∗ emp) := sep_mono_right (sep_mono_right (pad C))

theorem castSucc_next {s : Fin 3} (h : s ≠ 2) : (s + 1).castSucc = s.succ := by revert h; revert s; decide

/-- What a landing becomes. -/
theorem landed (c : Dev nD) (t : T) : rcvPt m c t ⊢ sepL (φ m c) (makes (.rw t)).tail := by
  cases t with
  | r0 h => exact (pad (rcvPt m c (.r0 h))).trans (padL _)
  | rs s h => exact (pad (rcvPt m c (.rs s h))).trans (padL _)
  | ag s h =>
    by_cases h2 : s = 2
    · subst h2
      exact (share3 m c ⟨0, 0, 3, h⟩).trans (pad3 _ _ _)
    · have e : (makes (.rw (.ag s h))).tail = [.fin (.ag s h), .src (.ag (s + 1) h), .src (.ex s.succ h), .src (.ez s.succ h)] := by
        show _ :: (if s = 2 then _ else _) = _
        rw [if_neg h2]
      rw [e]
      show rcvPt m c (.ag s h) ⊢ iprop((if s = 2 then _ else iprop(emp)) ∗ oPt m c fullShare.left ⟨0, 0, (s + 1).castSucc, h⟩ ∗ _)
      rw [if_neg h2, castSucc_next h2]
      exact ((share3 m c ⟨0, 0, s.succ, h⟩).trans (pad3 _ _ _)).trans (padL _)
  | ex k h =>
    fin_cases h
    · exact (pad (rcvPt m c (.ex k 0))).trans (padL _)
    · exact pad (rcvPt m c (.ex k 1))
  | ez k h =>
    fin_cases h
    · exact pad (rcvPt m c (.ez k 0))
    · exact (pad (rcvPt m c (.ez k 1))).trans (padL _)
  | fz k => exact pad (rcvPt m c (.fz k))
  | fx k => exact pad (rcvPt m c (.fx k))

/-- The receiving side: the half chunk that landed. -/
theorem step_rw (c : Dev nD) (t : T) {n : ℕ} (hn : idx (.rw t) = n) {q : DmaSem sig} (hq : q = rS t) {sp sp' : Space} {s s' : Shape} {e e' : EltTy}
    {srcm : Memref sig .tc sp' s' e'} {dstm : Memref sig .tc sp s e} (hamt : dstm.view.dmaCredit = NH) {hs : srcm.view.WordExact} {hd : dstm.view.WordExact}
    {k : PUnit → Prog (TpuEff nD τ sig (Elt F) Λ₀ .tc) α} {Q : α → sProp 𝕄} (H : St m c (n + 1) ⊢ run c (k ⟨⟩) Q) :
    St m c n ⊢ run c (.op (.waitDma2 q srcm dstm hs hd) k) Q := by
  subst hn hq
  rw [St]
  iintro ⟨#Hctx, Hg, HO, HL⟩
  ihave HL := (swap (φ m c) (.rw t)) $$ HL
  rw [show sepL (φ m c) (makes (.rw t)) = iprop(semVal (cell c (osem (rI t))) 0 ∗ sepL (φ m c) (makes (.rw t)).tail) from rfl]
  simp only [uses, sepL, φ]
  icases HL with ⟨⟨Hat, Hc, -⟩, Hback⟩
  iapply (wait_core m c (rI t) (osem_rI t) (rne t) (idx (.rw t)) (by rw [role_rS]; have := send_before_wait t; show 2 + idx (.send t) < _; omega) (N := NH) (by rw [role_rS]; rfl) hamt) $$ [Hc HO Hat]
  · isplitr; · iexact Hctx
    isplitl [Hc]; · iexact Hc
    isplitl [HO]; · iexact HO
    iexact Hat
  iintro ⟨HO, Hz, Hp⟩
  rw [role_rS, O_other c (.rw t) (fun _ h => by cases h)]
  ihave Hp := (show rolePay m c 0 (.rcv t) ⊢ _ from landed m c t) $$ Hp
  iapply H
  rw [St]
  isplitr; · iexact Hctx
  isplitl [Hg]; · iexact Hg
  isplitl [HO]; · iexact HO
  iapply Hback
  isplitl [Hz]; · iexact Hz
  iexact Hp

end Cert.KernelIdeal.Hand
-- ==== Proof.Regions.lean ====
/-
# Slots as regions of their buffers

Which elements a slot covers, that different slots are apart, and that a whole chunk is its two halves.
-/
module

public import proofs.«01_k».proof.Proof.Contents
public import Idealize.ShloMosaic.Lib.ViewIndex
public import Idealize.ShloMosaic.Rules.PointsTo

@[expose] public section

noncomputable section

namespace Cert.KernelIdeal.Hand

open Cert.KernelIdeal Cert.KernelIdeal.Gen
open Idealize.ShloMosaic Idealize.ShloMosaic.TcCoe
open Idealize.SL Idealize.SL.RA Idealize.SL.BI Idealize.SL.ProofMode
open scoped Idealize.SL.BI
open Idealize.SL.BI.BIBase

variable {F : FTy → Type} [FloatOps F] {UU : Type} [URA UU]

local notation "𝕄" => MT nD τ sig Unit (Elt F) ℕ UU ℕ

/-! ## Elements -/

def box5 (a z : Fin 2) (j : Fin 4) (h : Fin 2) : Finset S2x2x4x128x2048.Idx :=
  Finset.univ.filter fun x => (x 0).val = a.val ∧ (x 1).val = z.val ∧ (x 2).val = j.val ∧ (x 3).val / 64 = h.val
def boxc5 (a z : Fin 2) (j : Fin 4) : Finset S2x2x4x128x2048.Idx :=
  Finset.univ.filter fun x => (x 0).val = a.val ∧ (x 1).val = z.val ∧ (x 2).val = j.val
def box3 (k : Fin 3) (h : Fin 2) : Finset S3x128x2048.Idx :=
  Finset.univ.filter fun x => (x 0).val = k.val ∧ (x 1).val / 64 = h.val
def boxc3 (k : Fin 3) : Finset S3x128x2048.Idx := Finset.univ.filter fun x => (x 0).val = k.val
def box2 (h : Fin 2) : Finset S128x2048.Idx := Finset.univ.filter fun x => (x 0).val / 64 = h.val

theorem rowOf_div (h : Fin 2) (i : Fin 64) : (rowOf h i).val / 64 = h.val := by show (64 * h.val + i.val) / 64 = _; omega
theorem rowOf_of_div {r : Fin 128} {h : Fin 2} (e : r.val / 64 = h.val) : rowOf h ⟨r.val % 64, Nat.mod_lt _ (by omega)⟩ = r :=
  Fin.ext (by show 64 * h.val + r.val % 64 = r.val; omega)

theorem set_slot5 {sp : Space} (M : Memref sig .tc sp S2x2x4x128x2048 .f32) (a z : Fin 2) (j : Fin 4) (h : Fin 2) :
    (slot5 M a z j h).view.set = (box5 a z j h).map M.view.emb := by
  ext i
  constructor
  · intro hi
    obtain ⟨x, -, rfl⟩ := Finset.mem_map.mp hi
    rw [emb_slot5]
    refine Finset.mem_map_of_mem _ (Finset.mem_filter.mpr ⟨Finset.mem_univ _, rfl, rfl, rfl, rowOf_div h (x 0)⟩)
  · intro hi
    obtain ⟨y, hy, rfl⟩ := Finset.mem_map.mp hi
    obtain ⟨-, h0, h1, h2, h3⟩ := Finset.mem_filter.mp hy
    refine Finset.mem_map.mpr ⟨ix2 (⟨(y 3).val % 64, Nat.mod_lt _ (by omega)⟩ : Fin 64) (y 4), Finset.mem_univ _, ?_⟩
    rw [emb_slot5]
    congr 1
    funext b
    fin_cases b
    · exact Fin.ext h0.symm
    · exact Fin.ext h1.symm
    · exact Fin.ext h2.symm
    · exact rowOf_of_div h3
    · rfl

theorem set_chunk5 {sp : Space} (M : Memref sig .tc sp S2x2x4x128x2048 .f32) (a z : Fin 2) (j : Fin 4) :
    (chunk5 M a z j).view.set = (boxc5 a z j).map M.view.emb := by
  ext i
  constructor
  · intro hi
    obtain ⟨x, -, rfl⟩ := Finset.mem_map.mp hi
    rw [emb_chunk5]
    exact Finset.mem_map_of_mem _ (Finset.mem_filter.mpr ⟨Finset.mem_univ _, rfl, rfl, rfl⟩)
  · intro hi
    obtain ⟨y, hy, rfl⟩ := Finset.mem_map.mp hi
    obtain ⟨-, h0, h1, h2⟩ := Finset.mem_filter.mp hy
    refine Finset.mem_map.mpr ⟨ix2 (y 3) (y 4), Finset.mem_univ _, ?_⟩
    rw [emb_chunk5]
    congr 1
    funext b
    fin_cases b
    · exact Fin.ext h0.symm
    · exact Fin.ext h1.symm
    · exact Fin.ext h2.symm
    · rfl
    · rfl

theorem set_slot3 {sp : Space} (M : Memref sig .tc sp S3x128x2048 .f32) (k : Fin 3) (h : Fin 2) :
    (slot3 M k h).view.set = (box3 k h).map M.view.emb := by
  ext i
  constructor
  · intro hi
    obtain ⟨x, -, rfl⟩ := Finset.mem_map.mp hi
    rw [emb_slot3]
    exact Finset.mem_map_of_mem _ (Finset.mem_filter.mpr ⟨Finset.mem_univ _, rfl, rowOf_div h (x 0)⟩)
  · intro hi
    obtain ⟨y, hy, rfl⟩ := Finset.mem_map.mp hi
    obtain ⟨-, h0, h1⟩ := Finset.mem_filter.mp hy
    refine Finset.mem_map.mpr ⟨ix2 (⟨(y 1).val % 64, Nat.mod_lt _ (by omega)⟩ : Fin 64) (y 2), Finset.mem_univ _, ?_⟩
    rw [emb_slot3]
    congr 1
    funext b
    fin_cases b
    · exact Fin.ext h0.symm
    · exact rowOf_of_div h1
    · rfl

theorem set_chunk3 {sp : Space} (M : Memref sig .tc sp S3x128x2048 .f32) (k : Fin 3) :
    (chunk3 M k).view.set = (boxc3 k).map M.view.emb := by
  ext i
  constructor
  · intro hi
    obtain ⟨x, -, rfl⟩ := Finset.mem_map.mp hi
    rw [emb_chunk3]
    exact Finset.mem_map_of_mem _ (Finset.mem_filter.mpr ⟨Finset.mem_univ _, rfl⟩)
  · intro hi
    obtain ⟨y, hy, rfl⟩ := Finset.mem_map.mp hi
    obtain ⟨-, h0⟩ := Finset.mem_filter.mp hy
    refine Finset.mem_map.mpr ⟨ix2 (y 1) (y 2), Finset.mem_univ _, ?_⟩
    rw [emb_chunk3]
    congr 1
    funext b
    fin_cases b
    · exact Fin.ext h0.symm
    · rfl
    · rfl

theorem set_slot2 {sp : Space} (M : Memref sig .tc sp S128x2048 .f32) (h : Fin 2) :
    (slot2 M h).view.set = (box2 h).map M.view.emb := by
  ext i
  constructor
  · intro hi
    obtain ⟨x, -, rfl⟩ := Finset.mem_map.mp hi
    rw [emb_slot2]
    exact Finset.mem_map_of_mem _ (Finset.mem_filter.mpr ⟨Finset.mem_univ _, rowOf_div h (x 0)⟩)
  · intro hi
    obtain ⟨y, hy, rfl⟩ := Finset.mem_map.mp hi
    obtain ⟨-, h0⟩ := Finset.mem_filter.mp hy
    refine Finset.mem_map.mpr ⟨ix2 (⟨(y 0).val % 64, Nat.mod_lt _ (by omega)⟩ : Fin 64) (y 1), Finset.mem_univ _, ?_⟩
    rw [emb_slot2]
    congr 1
    funext b
    fin_cases b
    · exact rowOf_of_div h0
    · rfl

theorem box3_disj {k k' : Fin 3} {h h' : Fin 2} (ne : (k, h) ≠ (k', h')) : Disjoint (box3 k h) (box3 k' h') :=
  Finset.disjoint_left.mpr fun x hx hx' => by
    obtain ⟨-, a0, a1⟩ := Finset.mem_filter.mp hx
    obtain ⟨-, b0, b1⟩ := Finset.mem_filter.mp hx'
    exact ne (Prod.ext (Fin.ext (a0.symm.trans b0)) (Fin.ext (a1.symm.trans b1)))
theorem box2_disj : Disjoint (box2 0) (box2 1) :=
  Finset.disjoint_left.mpr fun x hx hx' => by
    obtain ⟨-, a0⟩ := Finset.mem_filter.mp hx
    obtain ⟨-, b0⟩ := Finset.mem_filter.mp hx'
    exact absurd (a0.symm.trans b0) (by decide)
theorem box5_disj {a a' z z' : Fin 2} {j j' : Fin 4} {h h' : Fin 2} (ne : (a, z, j, h) ≠ (a', z', j', h')) :
    Disjoint (box5 a z j h) (box5 a' z' j' h') :=
  Finset.disjoint_left.mpr fun x hx hx' => by
    obtain ⟨-, a0, a1, a2, a3⟩ := Finset.mem_filter.mp hx
    obtain ⟨-, b0, b1, b2, b3⟩ := Finset.mem_filter.mp hx'
    exact ne (Prod.ext (Fin.ext (a0.symm.trans b0)) (Prod.ext (Fin.ext (a1.symm.trans b1)) (Prod.ext (Fin.ext (a2.symm.trans b2)) (Fin.ext (a3.symm.trans b3)))))
theorem boxc5_disj {a a' z z' : Fin 2} {j j' : Fin 4} (ne : (a, z, j) ≠ (a', z', j')) : Disjoint (boxc5 a z j) (boxc5 a' z' j') :=
  Finset.disjoint_left.mpr fun x hx hx' => by
    obtain ⟨-, a0, a1, a2⟩ := Finset.mem_filter.mp hx
    obtain ⟨-, b0, b1, b2⟩ := Finset.mem_filter.mp hx'
    exact ne (Prod.ext (Fin.ext (a0.symm.trans b0)) (Prod.ext (Fin.ext (a1.symm.trans b1)) (Fin.ext (a2.symm.trans b2))))
theorem half_cases {r : ℕ} (h : r < 128) : r / 64 = (0 : Fin 2).val ∨ r / 64 = (1 : Fin 2).val := by
  show r / 64 = 0 ∨ r / 64 = 1; omega
theorem boxc5_union (a z : Fin 2) (j : Fin 4) : boxc5 a z j = box5 a z j 0 ∪ box5 a z j 1 := by
  ext x
  have := half_cases (x 3).isLt
  simp only [boxc5, box5, Finset.mem_filter, Finset.mem_union, Finset.mem_univ, true_and]
  tauto
theorem boxc3_union (k : Fin 3) : boxc3 k = box3 k 0 ∪ box3 k 1 := by
  ext x
  have := half_cases (x 1).isLt
  simp only [boxc3, box3, Finset.mem_filter, Finset.mem_union, Finset.mem_univ, true_and]
  tauto
theorem box2_union : Finset.univ = box2 0 ∪ box2 1 := by
  ext x
  have := half_cases (x 0).isLt
  simp only [box2, Finset.mem_filter, Finset.mem_union, Finset.mem_univ, true_and]
  tauto

/-! ## Ownership of a slot and the contents of its buffer -/

omit [FloatOps F] in
/-- A memref owned at what it reads of some contents is its elements at those contents. -/
theorem owns_elim (c : Dev nD) {sp : Space} {s : Shape} {e : EltTy} (M : Memref sig .tc sp s e) (q : PosShare TreeShare)
    (f : Buf (Elt F) (M.view.loc (c : Thread nD τ))) :
    (owns (c : Thread nD τ) M q (M.view.read (Elt F) f) : sProp 𝕄) ⊢ (M.view.loc (c : Thread nD τ) ↦[M.view.set]{q} f) := by
  unfold owns
  iintro ⟨%g, %hg, H⟩
  have e : (M.view.loc (c : Thread nD τ) ↦[M.view.set]{q} g : sProp 𝕄) = (M.view.loc (c : Thread nD τ) ↦[M.view.set]{q} f) :=
    pointsTo_congr fun i hi => by
      obtain ⟨x, -, rfl⟩ := Finset.mem_map.mp hi
      exact View.eq_of_read_eq (congrFun hg x)
  ihave H := (Entails.of_eq e) $$ H
  iexact H

theorem halves_chunk3 (c : Dev nD) {sp : Space} (M : Memref sig .tc sp S3x128x2048 .f32) (k : Fin 3) (q : PosShare TreeShare) (X : Vec F S128x2048 .f32) :
    (owns (c : Thread nD τ) (chunk3 M k) q X : sProp 𝕄)
      ⊢ iprop(owns (c : Thread nD τ) (slot3 M k 0) q (half 0 X) ∗ owns (c : Thread nD τ) (slot3 M k 1) q (half 1 X)) := by
  unfold owns
  iintro ⟨%f, %hf, H⟩
  subst hf
  have e : (chunk3 M k).view.set = (slot3 M k 0).view.set ∪ (slot3 M k 1).view.set := by
    rw [set_chunk3, set_slot3, set_slot3, boxc3_union, Finset.map_union]
  have d : Disjoint (slot3 M k 0).view.set (slot3 M k 1).view.set := by
    rw [set_slot3, set_slot3]; exact (Finset.disjoint_map _).mpr (box3_disj (by simp))
  rw [e]
  ihave H := (pointsTo_union d).1 $$ H
  icases H with ⟨H0, H1⟩
  isplitl [H0]
  · iexists f; isplitr; · (ipureintro; exact half_chunk3 M k 0 f)
    iexact H0
  · iexists f; isplitr; · (ipureintro; exact half_chunk3 M k 1 f)
    iexact H1

theorem halves_whole (c : Dev nD) {sp : Space} (M : Memref sig .tc sp S128x2048 .f32) (q : PosShare TreeShare) (X : Vec F S128x2048 .f32) :
    (owns (c : Thread nD τ) M q X : sProp 𝕄)
      ⊢ iprop(owns (c : Thread nD τ) (slot2 M 0) q (half 0 X) ∗ owns (c : Thread nD τ) (slot2 M 1) q (half 1 X)) := by
  unfold owns
  iintro ⟨%f, %hf, H⟩
  subst hf
  have e : M.view.set = (slot2 M 0).view.set ∪ (slot2 M 1).view.set := by
    rw [set_slot2, set_slot2, ← Finset.map_union, ← box2_union]; rfl
  have d : Disjoint (slot2 M 0).view.set (slot2 M 1).view.set := by
    rw [set_slot2, set_slot2]; exact (Finset.disjoint_map _).mpr box2_disj
  rw [e]
  ihave H := (pointsTo_union d).1 $$ H
  icases H with ⟨H0, H1⟩
  isplitl [H0]
  · iexists f; isplitr; · (ipureintro; exact half_whole M 0 f)
    iexact H0
  · iexists f; isplitr; · (ipureintro; exact half_whole M 1 f)
    iexact H1

end Cert.KernelIdeal.Hand
-- ==== Proof.Local.lean ====
/-
# Copies, loads and stores

The rules of the steps that stay on one device.
-/
module

public import proofs.«01_k».proof.Proof.Steps
public import proofs.«01_k».proof.Proof.Regions

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-! ## Local copies -/

theorem step_cp (c : Dev nD) (i : Fin 4) {n : ℕ} (hn : idx (.cp i) = n) {src : Memref sig .tc .hbm S128x2048 .f32}
    {dm : Memref sig .tc .vmem S128x2048 .f32} {X : Vec F S128x2048 .f32}
    (h1 : cpSrc m c i = owns (c : Thread nD τ) src fullShare X)
    (h2 : cpAny (F := F) c i = iprop(∃ Y, owns (c : Thread nD τ) dm fullShare Y))
    (h3 : cpDone m c i = owns (c : Thread nD τ) dm fullShare X) (hN : dm.view.dmaCredit = NC)
    {s : DmaSem sig} (hs : s = cS i) {hsrc : src.view.WordExact} {hdst : dm.view.WordExact}
    {hsem : DmaTarget.Typed (nD := nD) (τ := τ) (p := .tc) .hbm (.dma s) (.here dm)}
    {k : PUnit → Prog (TpuEff nD τ sig (Elt F) Λ₀ .tc) α} {Q : α → sProp 𝕄} (H : St m c (n + 1) ⊢ run c (k ⟨⟩) Q) :
    St m c n ⊢ run c (.op (.enqueueDma src (.here dm) (.dma s) hsrc hdst hsem) k) Q := by
  subst hn hs
  rw [St]
  iintro ⟨#Hctx, Hg, HO, HL⟩
  ihave HL := (swap (φ m c) (.cp i)) $$ HL
  simp only [uses, makes, sepL, φ]
  icases HL with ⟨⟨⟨Ht, HS, HD⟩, -⟩, Hback⟩
  ihave #⟨⟨%κ, HI⟩, Hr⟩ := (ctx_own m c (cI i) (osem_cI i)) $$ Hctx
  ihave HS := ((Entails.of_eq h1).trans (owns_open c src fullShare X)) $$ HS
  ihave HD := (Entails.of_eq h2) $$ HD
  icases HS with ⟨%fs, %hfs, HS⟩
  icases HD with ⟨%Y, HD⟩
  ihave HD := (owns_open c dm fullShare Y) $$ HD
  icases HD with ⟨%fd, -, HD⟩
  iapply (Rounds.wp_copy_pointsTo 𝒱₀ ER (ringRd m) (c : Thread nD τ) none (κ := κ) (r := 0) (d := 0) (fd := fd) (fs := fs) (q := fullShare)
    (by rw [duties_role m c (cne i)]; exact Finset.mem_singleton_self _)
    () NC (show dm.view.amount (.dma (cS i)) = NC from hN) (by show roleAmt (role (.dma (cS i))) = _; rw [role_cS]; rfl)
    (by
      show _ ⊢ rolePay m c 0 (role (.dma (cS i))); rw [role_cS]; show _ ⊢ iprop(cpDone m c i ∗ cpSrc m c i)
      rw [h1, h3, ← hfs]
      refine Entails.trans (sep_mono_left ?_) (sep_mono_right (owns_intro (c : Thread nD τ) src fullShare fs))
      refine (owns_intro (c : Thread nD τ) dm fullShare _).trans (Entails.of_eq ?_)
      rw [View.read_write_univ])) $$ [HS HD Ht]
  · isplitr; · iexact HI
    isplitl [HS]; · iexact HS
    isplitl [HD]; · iexact HD
    isplitl [Ht]; · iexact Ht
    iexact Hr
  iintro Hc
  rw [O_other c (.cp i) (fun _ h => by cases h)]
  iapply H
  rw [St]
  isplitr; · iexact Hctx
  isplitl [Hg]; · iexact Hg
  isplitl [HO]; · iexact HO
  iapply Hback
  isplitl [Hc]; · iexact Hc
  iempintro

theorem chunk_eq {sp : Space} (M : Memref sig .tc sp S2x2x4x128x2048 .f32) {off : Fin 5 → ℕ} {a z : Fin 2} {j : Fin 4} (ho : off = offc5 a z j)
    (hb : ∀ a, off a + S1x1x1x128x2048.size a ≤ S2x2x4x128x2048.size a) :
    ((M.slice (Rect.unit off S1x1x1x128x2048.size hb) (fun _ => rfl)).squeeze S128x2048 squeezes_S1x1x1x128x2048_S128x2048) = chunk5 M a z j := by
  subst ho; rfl
theorem credit_chunk3 (k : Fin 3) : (chunk3 pbM k).view.dmaCredit = NC := rfl

/-- A chunk of the partial sums, copied next to the ring buffer. -/
theorem step_cp_p (c : Dev nD) (k : Fin 3) {n : ℕ} (hn : idx (.cp k.castSucc) = n) {off : Dev nD → Fin 5 → ℕ}
    (ho : ∀ c, off c = offc5 (cx c) (zg c) (cy c - 1 - k.castSucc))
    {hb : ∀ a, off c a + S1x1x1x128x2048.size a ≤ S2x2x4x128x2048.size a}
    {s : DmaSem sig} (hs : s = cS k.castSucc) {hsrc} {hdst} {hsem}
    {kk : PUnit → Prog (TpuEff nD τ sig (Elt F) Λ₀ .tc) α} {Q : α → sProp 𝕄} (H : St m c (n + 1) ⊢ run c (kk ⟨⟩) Q) :
    St m c n ⊢ run c (.op (.enqueueDma
      ((pM.slice (Rect.unit (off c) S1x1x1x128x2048.size hb) (fun _ => rfl)).squeeze S128x2048 squeezes_S1x1x1x128x2048_S128x2048)
      (.here (chunk3 pbM k)) (.dma s) hsrc hdst hsem) kk) Q := by
  have he := chunk_eq pM (ho c) hb
  refine step_cp m c k.castSucc hn (X := PC m c k) ?_ ?_ ?_ (credit_chunk3 k) hs H
  · rw [he]; fin_cases k <;> rfl
  · fin_cases k <;> rfl
  · fin_cases k <;> rfl

/-- The residual chunk. -/
theorem step_cp_r (c : Dev nD) {n : ℕ} (hn : idx (.cp 3) = n) {off : Dev nD → Fin 5 → ℕ}
    (ho : ∀ c, off c = offc5 (cx c) (zg c) (cy c + 1))
    {hb : ∀ a, off c a + S1x1x1x128x2048.size a ≤ S2x2x4x128x2048.size a}
    {s : DmaSem sig} (hs : s = cS 3) {hsrc} {hdst} {hsem}
    {kk : PUnit → Prog (TpuEff nD τ sig (Elt F) Λ₀ .tc) α} {Q : α → sProp 𝕄} (H : St m c (n + 1) ⊢ run c (kk ⟨⟩) Q) :
    St m c n ⊢ run c (.op (.enqueueDma
      ((resM.slice (Rect.unit (off c) S1x1x1x128x2048.size hb) (fun _ => rfl)).squeeze S128x2048 squeezes_S1x1x1x128x2048_S128x2048)
      (.here rcM) (.dma s) hsrc hdst hsem) kk) Q := by
  have he := chunk_eq resM (ho c) hb
  refine step_cp m c 3 hn (X := RC m c) ?_ rfl rfl rfl hs H
  rw [he]; rfl

/-- What a local copy becomes. -/
theorem copied (c : Dev nD) (i : Fin 4) : cpDone m c i ⊢ sepL (φ m c) (makes (.cw i)).tail.tail := by
  have hp : ∀ k : Fin 3, owns (c : Thread nD τ) (chunk3 pbM k) fullShare (PC m c k)
      ⊢ iprop(owns (c : Thread nD τ) (slot3 pbM k 0) fullShare (PB m c k.val 0) ∗ owns (c : Thread nD τ) (slot3 pbM k 1) fullShare (PB m c k.val 1) ∗ emp) := fun k => by
    rw [← half_PC m c k 0, ← half_PC m c k 1]
    exact (halves_chunk3 c pbM k fullShare (PC m c k)).trans (sep_mono_right (pad _))
  fin_cases i
  · exact hp 0
  · exact hp 1
  · exact hp 2
  · show owns (c : Thread nD τ) rcM fullShare (RC m c)
      ⊢ iprop(owns (c : Thread nD τ) (slot2 rcM 0) fullShare (RR m c 0) ∗ owns (c : Thread nD τ) (slot2 rcM 1) fullShare (RR m c 1) ∗ emp)
    rw [← half_RC m c 0, ← half_RC m c 1]
    exact (halves_whole c rcM fullShare (RC m c)).trans (sep_mono_right (pad _))

theorem step_cw (c : Dev nD) (i : Fin 4) {n : ℕ} (hn : idx (.cw i) = n) {q : DmaSem sig} (hq : q = cS i) {sp sp' : Space} {s s' : Shape} {e e' : EltTy}
    {srcm : Memref sig .tc sp' s' e'} {dstm : Memref sig .tc sp s e} (hamt : dstm.view.dmaCredit = NC) {hs : srcm.view.WordExact} {hd : dstm.view.WordExact}
    {k : PUnit → Prog (TpuEff nD τ sig (Elt F) Λ₀ .tc) α} {Q : α → sProp 𝕄} (H : St m c (n + 1) ⊢ run c (k ⟨⟩) Q) :
    St m c n ⊢ run c (.op (.waitDma2 q srcm dstm hs hd) k) Q := by
  subst hn hq
  rw [St]
  iintro ⟨#Hctx, Hg, HO, HL⟩
  ihave HL := (swap (φ m c) (.cw i)) $$ HL
  rw [show sepL (φ m c) (makes (.cw i)) = iprop(semVal (cell c (osem (cI i))) 0 ∗ cpSrc m c i ∗ sepL (φ m c) (makes (.cw i)).tail.tail) from rfl]
  simp only [uses, sepL, φ]
  icases HL with ⟨⟨Hat, Hc, -⟩, Hback⟩
  iapply (wait_core m c (cI i) (osem_cI i) (cne i) (idx (.cw i)) (by rw [role_cS]; show 0 < _; omega) (N := NC) (by rw [role_cS]; rfl) hamt) $$ [Hc HO Hat]
  · isplitr; · iexact Hctx
    isplitl [Hc]; · iexact Hc
    isplitl [HO]; · iexact HO
    iexact Hat
  iintro ⟨HO, Hz, Hp⟩
  rw [role_cS, O_other c (.cw i) (fun _ h => by cases h)]
  ihave Hp := (show rolePay m c 0 (.cpy i) ⊢ _ from sep_mono_left (copied m c i)) $$ Hp
  icases Hp with ⟨Hp, Hs⟩
  iapply H
  rw [St]
  isplitr; · iexact Hctx
  isplitl [Hg]; · iexact Hg
  isplitl [HO]; · iexact HO
  iapply Hback
  isplitl [Hz]; · iexact Hz
  isplitl [Hs]; · iexact Hs
  iexact Hp

/-! ## Loads -/

/-- A load of a slot that is at hand. -/
theorem step_ld (c : Dev nD) {n : ℕ} (x : Lk) (hx : x ∈ Live n) {s s' : Shape} {M : Memref sig .tc .vmem s .f32} {r : Rect s}
    {hr : ∀ a, r.stride a = 1} {hq : r.shape.Squeezes s'} (hc : r.shape.ShapeCasts s') {q : PosShare TreeShare} {X : Vec F s' .f32}
    (hφ : φ m c x = owns (c : Thread nD τ) ((M.slice r hr).squeeze s' hq) q X) {hl : M.view.LoadsAt r.toLoadRect}
    {k : (r.shape.Idx → Elt F .f32) → Prog (TpuEff nD τ sig (Elt F) Λ₀ .tc) α} {Q : α → sProp 𝕄}
    (H : ∀ w : r.shape.Idx → Elt F .f32, shapeCast s' w hc = X → (St m c n ⊢ run c (k w) Q)) :
    St m c n ⊢ run c (.op (.load M r.toLoadRect hl) k) Q := by
  rw [St]
  iintro ⟨#Hctx, Hg, HO, HL⟩
  ihave HL := (peek (φ m c) x hx) $$ HL
  rw [hφ]
  icases HL with ⟨Hx, Hback⟩
  ihave Hx := (owns_open c _ q X) $$ Hx
  icases Hx with ⟨%f, %hf, Hx⟩
  iapply (wp_load 𝒱₀ (c : Thread nD τ) none Set.univ (m := M) (r := r.toLoadRect) (f := f)
    (show M.view.setOn r.set ⊆ ((M.slice r hr).squeeze s' hq).view.set by
      refine subset_of_eq (Eq.trans ?_ (View.set_reshape _ _).symm); exact (View.set_slice _ r).symm)) $$ Hx
  iintro Hx
  iapply (H (M.view.readAt (Elt F) r.toLoadRect f) hf)
  rw [St]
  isplitr; · iexact Hctx
  isplitl [Hg]; · iexact Hg
  isplitl [HO]; · iexact HO
  iapply Hback
  subst hf
  iapply (owns_intro (c : Thread nD τ) ((M.slice r hr).squeeze s' hq) q f)
  iexact Hx

/-- A load of a slot of the residual. -/
theorem step_ld2 (c : Dev nD) {n : ℕ} (h : Fin 2) (hx : Lk.rc h ∈ Live n) {hl : rcM.view.LoadsAt (rect2 h).toLoadRect}
    {k : ((rect2 h).shape.Idx → Elt F .f32) → Prog (TpuEff nD τ sig (Elt F) Λ₀ .tc) α} {Q : α → sProp 𝕄}
    (H : St m c n ⊢ run c (k (RR m c h)) Q) :
    St m c n ⊢ run c (.op (.load rcM (rect2 h).toLoadRect hl) k) Q := by
  rw [St]
  iintro ⟨#Hctx, Hg, HO, HL⟩
  ihave HL := (peek (φ m c) (.rc h) hx) $$ HL
  rw [show φ m c (.rc h) = owns (c : Thread nD τ) (slot2 rcM h) fullShare (RR m c h) from rfl]
  icases HL with ⟨Hx, Hback⟩
  ihave Hx := (owns_open c (slot2 rcM h) fullShare (RR m c h)) $$ Hx
  icases Hx with ⟨%f, %hf, Hx⟩
  iapply (wp_load 𝒱₀ (c : Thread nD τ) none Set.univ (m := rcM) (r := (rect2 h).toLoadRect) (f := f)
    (show rcM.view.setOn (rect2 h).set ⊆ (slot2 rcM h).view.set from subset_of_eq (View.set_slice _ (rect2 h)).symm)) $$ Hx
  iintro Hx
  rw [show rcM.view.readAt (Elt F) (rect2 h).toLoadRect f = RR m c h from hf]
  iapply H
  rw [St]
  isplitr; · iexact Hctx
  isplitl [Hg]; · iexact Hg
  isplitl [HO]; · iexact HO
  iapply Hback
  rw [← hf]
  iapply (owns_intro (c : Thread nD τ) (slot2 rcM h) fullShare f)
  iexact Hx

/-- The load of the gain row. -/
theorem step_ldg (c : Dev nD) {n : ℕ} {off : Fin 2 → ℕ} (ho : off = fun _ => 0) {hb : ∀ a, off a + S1x2048.size a ≤ S1x2048.size a}
    {hl : gM.view.LoadsAt (Rect.unit (s := S1x2048) off S1x2048.size hb).toLoadRect}
    {k : Vec F S1x2048 .f32 → Prog (TpuEff nD τ sig (Elt F) Λ₀ .tc) α} {Q : α → sProp 𝕄}
    (H : St m c n ⊢ run c (k (gA m c)) Q) :
    St m c n ⊢ run c (.op (.load gM (Rect.unit (s := S1x2048) off S1x2048.size hb).toLoadRect hl) k) Q := by
  rw [St]
  iintro ⟨#Hctx, Hg, HO, HL⟩
  ihave Hg := (owns_open c gM fullShare (gA m c)) $$ Hg
  icases Hg with ⟨%f, %hf, Hx⟩
  iapply (wp_load 𝒱₀ (c : Thread nD τ) none Set.univ (m := gM) (r := (Rect.unit (s := S1x2048) off S1x2048.size hb).toLoadRect) (f := f)
    (show gM.view.setOn _ ⊆ gM.view.set from View.setOn_subset_set _ _)) $$ Hx
  iintro Hx
  rw [show gM.view.readAt (Elt F) (Rect.unit (s := S1x2048) off S1x2048.size hb).toLoadRect f = gA m c from
    (Memref.readAt_unit_zero (Elt F) cc0_stg0_0 ho hb f).trans hf]
  iapply H
  rw [St]
  isplitr; · iexact Hctx
  isplitl [Hx]
  · rw [← hf]
    iapply (owns_intro (c : Thread nD τ) gM fullShare f)
    iexact Hx
  isplitl [HO]; · iexact HO
  iexact HL

/-- The load of a slot of the result that is about to be overwritten. -/
theorem step_ld5 (c : Dev nD) {n : ℕ} (h : Fin 2) (hx : Lk.own0 h ∈ Live n) {off : Dev nD → Fin 5 → ℕ}
    (ho : ∀ c, off c = off5 (ax c ⟨0, 0, 0, h⟩) (az c ⟨0, 0, 0, h⟩) (ay c ⟨0, 0, 0, h⟩) h)
    {hb : ∀ a, off c a + S1x1x1x64x2048.size a ≤ S2x2x4x128x2048.size a}
    {hl : outM.view.LoadsAt (Rect.unit (s := S2x2x4x128x2048) (off c) S1x1x1x64x2048.size hb).toLoadRect}
    {k : Vec F S1x1x1x64x2048 .f32 → Prog (TpuEff nD τ sig (Elt F) Λ₀ .tc) α} {Q : α → sProp 𝕄}
    (H : ∀ w, St m c n ⊢ run c (k w) Q) :
    St m c n ⊢ run c (.op (.load outM (Rect.unit (s := S2x2x4x128x2048) (off c) S1x1x1x64x2048.size hb).toLoadRect hl) k) Q := by
  have he := slot_eq outM (ho c) hb
  rw [St]
  iintro ⟨#Hctx, Hg, HO, HL⟩
  ihave HL := (peek (φ m c) (.own0 h) hx) $$ HL
  rw [show φ m c (.own0 h) = iprop(∃ X, owns (c : Thread nD τ) (oSlot c ⟨0, 0, 0, h⟩) fullShare X) from rfl,
    show oSlot c ⟨0, 0, 0, h⟩ = _ from he.symm]
  icases HL with ⟨⟨%X, Hx⟩, Hback⟩
  ihave Hx := (owns_open c _ fullShare X) $$ Hx
  icases Hx with ⟨%f, %hf, Hx⟩
  iapply (wp_load 𝒱₀ (c : Thread nD τ) none Set.univ (m := outM) (r := (Rect.unit (s := S2x2x4x128x2048) (off c) S1x1x1x64x2048.size hb).toLoadRect) (f := f)
    (show outM.view.setOn (Rect.unit (s := S2x2x4x128x2048) (off c) S1x1x1x64x2048.size hb).set ⊆ _ by
      refine subset_of_eq (Eq.trans ?_ (View.set_reshape _ _).symm); exact (View.set_slice _ _).symm)) $$ Hx
  iintro Hx
  iapply (H _)
  rw [St]
  isplitr; · iexact Hctx
  isplitl [Hg]; · iexact Hg
  isplitl [HO]; · iexact HO
  iapply Hback
  iexists _
  iapply (owns_intro (c : Thread nD τ) _ fullShare f)
  iexact Hx

/-! ## Stores -/

omit [FloatOps F] in
/-- A store to a slot: it then holds what was stored. -/
theorem owns_store (c : Dev nD) {s s' : Shape} {M : Memref sig .tc .vmem s .f32} {r : Rect s}
    {hr : ∀ a, r.stride a = 1} {hq : r.shape.Squeezes s'} (hc : r.shape.ShapeCasts s') {Y X : Vec F s' .f32} {w : r.shape.Idx → Elt F .f32}
    (hw : shapeCast s' w hc = X) [FloatOps F] {hx : (M.access r).Stores Finset.univ} {hm}
    {k : PUnit → Prog (TpuEff nD τ sig (Elt F) Λ₀ .tc) α} {Q : α → sProp 𝕄} :
    owns (c : Thread nD τ) ((M.slice r hr).squeeze s' hq) fullShare Y
      ⊢ iprop((owns (c : Thread nD τ) ((M.slice r hr).squeeze s' hq) fullShare X -∗ run c (k ⟨⟩) Q)
        -∗ run c (.op (.store M r w Finset.univ hx hm) k) Q) := by
  iintro Hx Hk
  ihave Hx := (owns_open c _ fullShare Y) $$ Hx
  icases Hx with ⟨%f, %hf, Hx⟩
  iapply (wp_store 𝒱₀ (c : Thread nD τ) none Set.univ (m := M) (r := r) (Mk := Finset.univ) (f := f)
    (show (M.access r).setOn Finset.univ ⊆ ((M.slice r hr).squeeze s' hq).view.set from
      subset_of_eq (View.set_reshape _ _).symm)) $$ Hx
  iintro Hx
  iapply Hk
  have e : ((M.slice r hr).squeeze s' hq).view.read (Elt F) ((M.access r).write (Elt F) f w Finset.univ) = X := by
    refine Eq.trans ?_ hw
    refine Eq.trans (Memref.read_squeeze_slice M r hr hq hc _) ?_
    exact congrArg (fun v => shapeCast s' v hc) (View.read_write_univ (v := M.access r) f w)
  rw [← e]
  iapply (owns_intro (c : Thread nD τ) ((M.slice r hr).squeeze s' hq) fullShare _)
  iexact Hx

/-- The running sum in a slot of the ring buffer takes in the device's own chunk. -/
theorem step_upd (c : Dev nD) (s h : Fin 2) {n : ℕ} (hn : idx (.upd s h) = n) {w : (rect3 s.castSucc h).shape.Idx → Elt F .f32}
    (hw : w = shapeCast S1x64x2048 (U m s.val c h) shapeCasts_S64x2048_S1x64x2048)
    {hx : (rbM.access (rect3 s.castSucc h)).Stores Finset.univ} {hm}
    {k : PUnit → Prog (TpuEff nD τ sig (Elt F) Λ₀ .tc) α} {Q : α → sProp 𝕄} (H : St m c (n + 1) ⊢ run c (k ⟨⟩) Q) :
    St m c n ⊢ run c (.op (.store rbM (rect3 s.castSucc h) w Finset.univ hx hm) k) Q := by
  subst hn
  rw [St]
  iintro ⟨#Hctx, Hg, HO, HL⟩
  ihave HL := (swap (φ m c) (.upd s h)) $$ HL
  simp only [uses, makes, sepL, φ]
  icases HL with ⟨⟨Hr, Hp, -⟩, Hback⟩
  iapply (owns_store c (M := rbM) (r := rect3 s.castSucc h) (hr := fun _ => rfl) (hq := squeezes_S1x64x2048_S64x2048) shapeCasts_S1x64x2048_S64x2048
    (X := U m s.val c h) (by rw [hw]; exact shapeCast_shapeCast _ _ _)) $$ Hr
  iintro Hr
  ihave Hr := (show owns (c : Thread nD τ) (slot3 rbM s.castSucc h) fullShare (U m s.val c h) ⊢ srcPt m c (.rs s h) from Entails.refl _) $$ Hr
  rw [O_other c (.upd s h) (fun _ h => by cases h)]
  iapply H
  rw [St]
  isplitr; · iexact Hctx
  isplitl [Hg]; · iexact Hg
  isplitl [HO]; · iexact HO
  iapply Hback
  isplitl [Hr]; · iexact Hr
  isplitl [Hp]; · iexact Hp
  iempintro

theorem origin_self (c : Dev nD) (h : Fin 2) : origin c ⟨0, 0, 0, h⟩ = c := by revert c h; decide +kernel

/-- The half chunk a device finishes itself. -/
theorem step_own (c : Dev nD) (h : Fin 2) {n : ℕ} (hn : idx (.own h) = n) {off : Dev nD → Fin 5 → ℕ}
    (ho : ∀ c, off c = off5 (ax c ⟨0, 0, 0, h⟩) (az c ⟨0, 0, 0, h⟩) (ay c ⟨0, 0, 0, h⟩) h)
    {hb : ∀ a, off c a + S1x1x1x64x2048.size a ≤ S2x2x4x128x2048.size a} {w : Vec F S1x1x1x64x2048 .f32}
    (hw : w = shapeCast S1x1x1x64x2048 (Own m c h) shapeCasts_S64x2048_S1x1x1x64x2048)
    {hx : (outM.access (Rect.unit (s := S2x2x4x128x2048) (off c) S1x1x1x64x2048.size hb)).Stores Finset.univ} {hm}
    {k : PUnit → Prog (TpuEff nD τ sig (Elt F) Λ₀ .tc) α} {Q : α → sProp 𝕄} (H : St m c (n + 1) ⊢ run c (k ⟨⟩) Q) :
    St m c n ⊢ run c (.op (.store outM (Rect.unit (s := S2x2x4x128x2048) (off c) S1x1x1x64x2048.size hb) w Finset.univ hx hm) k) Q := by
  have he := slot_eq outM (ho c) hb
  have hmk : owns (c : Thread nD τ) (oSlot c ⟨0, 0, 0, h⟩) fullShare (Own m c h) ⊢ oPt m c fullShare ⟨0, 0, 0, h⟩ := by
    unfold oPt OutV; rw [origin_self]
  subst hn
  rw [St]
  iintro ⟨#Hctx, Hg, HO, HL⟩
  ihave HL := (swap (φ m c) (.own h)) $$ HL
  simp only [uses, makes, sepL, φ]
  icases HL with ⟨⟨Hr, Hp, Hc, ⟨%Y, Hx⟩, -⟩, Hback⟩
  ihave Hx := (show owns (c : Thread nD τ) (oSlot c ⟨0, 0, 0, h⟩) fullShare Y ⊢ owns (c : Thread nD τ) _ fullShare Y by
    rw [show oSlot c ⟨0, 0, 0, h⟩ = _ from he.symm]) $$ Hx
  iapply (owns_store c (M := outM) (r := Rect.unit (s := S2x2x4x128x2048) (off c) S1x1x1x64x2048.size hb) (hr := fun _ => rfl)
    (hq := squeezes_S1x1x1x64x2048_S64x2048) (shapeCasts_S1x1x1x64x2048_S64x2048)
    (X := Own m c h) (by rw [hw]; exact shapeCast_shapeCast _ _ _)) $$ Hx
  rw [he]
  iintro Hx
  ihave Hx := hmk $$ Hx
  ihave Hx := (share3 m c ⟨0, 0, 0, h⟩) $$ Hx
  icases Hx with ⟨H1, H2, H3⟩
  ihave H1 := (show oPt m c fullShare.left ⟨0, 0, 0, h⟩ ⊢ srcPt m c (.ag 0 h) from Entails.refl _) $$ H1
  ihave H2 := (show oPt m c fullShare.right.left ⟨0, 0, 0, h⟩ ⊢ srcPt m c (.ex 0 h) from Entails.refl _) $$ H2
  ihave H3 := (show oPt m c fullShare.right.right ⟨0, 0, 0, h⟩ ⊢ srcPt m c (.ez 0 h) from Entails.refl _) $$ H3
  rw [O_other c (.own h) (fun _ h => by cases h)]
  iapply H
  rw [St]
  isplitr; · iexact Hctx
  isplitl [Hg]; · iexact Hg
  isplitl [HO]; · iexact HO
  iapply Hback
  isplitl [H1]; · iexact H1
  isplitl [H2]; · iexact H2
  isplitl [H3]; · iexact H3
  isplitl [Hr]; · iexact Hr
  isplitl [Hp]; · iexact Hp
  isplitl [Hc]; · iexact Hc
  iempintro

end Cert.KernelIdeal.Hand
-- ==== Proof.Start.lean ====
/-
# The barrier

A device first tells the four neighbours that send to it that its landing slots may be written, then waits for the same
word from the four devices it sends to. With their landing slots at hand it is in the state before step 0.
-/
module

public import proofs.«01_k».proof.Proof.Local

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-! ## The links at hand in the beginning -/

/-- Their kinds: the tokens and receive credits of all transfers, the two first sources, the copies, the positions at all
    semaphores, and the two slots a device finishes itself. -/
abbrev Kinds : Type := T ⊕ T ⊕ Fin 2 ⊕ Fin 4 ⊕ Fin 92 ⊕ Fin 2
def first : Kinds → Lk
  | .inl t => .tok t
  | .inr (.inl t) => .rcr t
  | .inr (.inr (.inl h)) => .src (.r0 h)
  | .inr (.inr (.inr (.inl i))) => .ctok i
  | .inr (.inr (.inr (.inr (.inl i)))) => .pos i
  | .inr (.inr (.inr (.inr (.inr h)))) => .own0 h
theorem first_inj : Function.Injective first := by
  intro x y h
  rcases x with x | x | x | x | x | x <;> rcases y with y | y | y | y | y | y <;> first | cases h | (injection h with h; subst h; rfl)
  all_goals rfl
theorem live_zero : Live 0 = Finset.univ.image first := by
  ext x
  rw [mem_live, Finset.mem_image]
  revert x
  refine Lk.forall ?_
  decide +kernel

theorem live_zero_sep {M : Type} [URA M] (Φ : Lk → sProp M) :
    bigSep (Live 0) Φ = iprop(bigSep Finset.univ (fun t => Φ (.tok t)) ∗ bigSep Finset.univ (fun t => Φ (.rcr t)) ∗ bigSep Finset.univ (fun h => Φ (.src (.r0 h)))
      ∗ bigSep Finset.univ (fun i => Φ (.ctok i)) ∗ bigSep Finset.univ (fun i => Φ (.pos i)) ∗ bigSep Finset.univ (fun h => Φ (.own0 h))) := by
  rw [live_zero, bigSep_image_of_injOn (fun x _ y _ h => first_inj h), bigSep_univ_sum, bigSep_univ_sum, bigSep_univ_sum, bigSep_univ_sum, bigSep_univ_sum]
  rfl

/-! ## The state while the barrier is under way -/

/-- The two tokens of a transfer. -/
def tok2 (c : Dev nD) (t : T) : sProp 𝕄 := iprop(dutyTok ER (sCell c t) 0 0 ∗ dutyTok ER (rCell (dst t c) t) 0 0)
/-- The signals of the classes `D` still to be sent, with what goes with them. -/
def SB (c : Dev nD) (D : Finset (Fin 4)) : sProp 𝕄 :=
  iprop(ctx m ∗ owns (c : Thread nD τ) gM fullShare (gA m c)
    ∗ (∃ W, owes (c : Thread nD τ) (O c 0 + ∑ d ∈ D, tallyAt (bCell (payee d c)) () 1) W)
    ∗ bigSep D (fun d => iprop(dutyTok ER (bCell (payee d c)) 0 d ∗ barPay (payee d c) d))
    ∗ atPos ER (bCell c) 0 ∅ 0 ∗ cred (tallyAt (bCell c) () 4)
    ∗ bigSep Finset.univ (tok2 c)
    ∗ bigSep Finset.univ (fun t => φ m c (.rcr t)) ∗ bigSep Finset.univ (fun h => φ m c (.src (.r0 h)))
    ∗ bigSep Finset.univ (fun i => φ m c (.ctok i)) ∗ bigSep Finset.univ (fun i => φ m c (.pos i)) ∗ bigSep Finset.univ (fun h => φ m c (.own0 h)))

theorem step_sig (c : Dev nD) (d : Fin 4) (D : Finset (Fin 4)) (hd : d ∈ D) {e : Dev nD → ℕ} {he' : e c < nD} (he : ∀ c, e c = (payee d c).val)
    {s : Sem sig} (hs : s = barS) {n : ℤ} (hn : n = (1 : ℕ))
    {k : PUnit → Prog (TpuEff nD τ sig (Elt F) Λ₀ .tc) α} {Q : α → sProp 𝕄} (H : SB m c (D.erase d) ⊢ run c (k ⟨⟩) Q) :
    SB m c D ⊢ run c (.op (.semSignal (Dev.tc (⟨e c, he'⟩ : Dev nD) : Thread nD τ) s n) k) Q := by
  obtain rfl : s = barS := hs
  obtain rfl : n = (1 : ℕ) := hn
  have hO : O c 0 + ∑ d ∈ D, tallyAt (bCell (payee d c)) () 1
      = O c 0 + ∑ d ∈ D.erase d, tallyAt (bCell (payee d c)) () 1 + tallyAt ((payee d c).tc, .reg barS) () 1 := by
    rw [← Finset.sum_erase_add D _ hd, add_assoc]
  have he2 : (⟨e c, he'⟩ : Dev nD) = payee d c := Fin.ext (he c)
  rw [he2]
  rw [SB, bigSep_take hd]
  iintro ⟨#Hctx, Hg, ⟨%W, HO⟩, ⟨⟨Ht, Hp⟩, HD⟩, Hrest⟩
  ihave Hp := (show barPay (payee d c) d ⊢ (ringRd m).payload (bCell (payee d c)) 0 d from Entails.refl _) $$ Hp
  ihave #⟨⟨%κ, HI⟩, Hr⟩ := (ctx_bar m (payee d c)) $$ Hctx
  iapply (Rounds.wp_signal 𝒱₀ ER (ringRd m) (c : Thread nD τ) none (dst := (payee d c : Thread nD τ)) (κ := κ) (r := 0) (d := d)
      (by rw [duties_bar]; exact Finset.mem_univ _) (show roleAmt (role (.reg barS)) = 1 from rfl) ()
      (O c 0 + ∑ d ∈ D.erase d, tallyAt (bCell (payee d c)) () 1) hO) $$ [HO Ht Hp]
  · isplitr; · iexact HI
    isplitl [HO]; · iexact HO
    isplitl [Ht]; · iexact Ht
    isplitl [Hp]; · iexact Hp
    iexact Hr
  iintro HO
  iapply H
  rw [SB]
  isplitr; · iexact Hctx
  isplitl [Hg]; · iexact Hg
  isplitl [HO]; · iexists W; iexact HO
  isplitl [HD]; · iexact HD
  iexact Hrest

/-- Sorted by class, a family over the transfers is the same family. -/
theorem by_class {M : Type} [URA M] (Φ : T → sProp M) :
    bigSep Finset.univ (fun d : Fin 4 => bigSep (Finset.univ.filter fun t => cls t = d) Φ) = bigSep Finset.univ Φ := by
  simp only [bigSep_filter]
  rw [bigSep_univ_comm]
  refine bigSep_congr fun t _ => ?_
  rw [bigSep_univ_at _ (cls t), if_pos rfl]
  refine Eq.trans (congrArg (fun X => iprop(Φ t ∗ X)) ((bigSep_congr fun d hd => if_neg (Finset.ne_of_mem_erase hd).symm).trans (bigSep_emp_const _))) ?_
  exact equiv_iff.mp BI.sep_emp

theorem barPay_all (c : Dev nD) : bigSep Finset.univ (barPay (F := F) c) = bigSep Finset.univ (fun t => dstAny (F := F) (dst t c) t) :=
  by_class (fun t => dstAny (F := F) (dst t c) t)

theorem run_frame (c : Dev nD) (p : Prog (TpuEff nD τ sig (Elt F) Λ₀ .tc) α) (Q : α → sProp 𝕄) (R : sProp 𝕄) :
    iprop(run c p Q ∗ R) ⊢ run c p (fun a => iprop(Q a ∗ R)) :=
  wp_frame_r _ _ _

/-- The wait; the barrier semaphore, at zero for good, is put aside. -/
theorem step_bar (c : Dev nD) {D : Finset (Fin 4)} (hD : D = ∅) {s : Sem sig} (hs : s = barS) {n : ℤ} (hn : n = (4 : ℕ))
    {k : PUnit → Prog (TpuEff nD τ sig (Elt F) Λ₀ .tc) α} {Q : α → sProp 𝕄} (H : St m c 0 ⊢ run c (k ⟨⟩) Q) :
    SB m c D ⊢ run c (.op (.semWait s n) k) (fun r => iprop(Q r ∗ semVal (bCell c) 0)) := by
  obtain rfl : s = barS := hs
  obtain rfl : n = (4 : ℕ) := hn
  subst hD
  rw [SB, Finset.sum_empty, add_zero]
  iintro ⟨#Hctx, Hg, ⟨%W, HO⟩, -, Hat, Hc, Htok, Hrest⟩
  ihave #⟨⟨%κ, HI⟩, Hr⟩ := (ctx_bar m c) $$ Hctx
  have hmw := ctx_wait m c (.reg barS) 0 (by show (if _ then 1 else _) < 2; rw [if_pos rfl]; decide)
  iapply (Rounds.wp_wait_rest_token 𝒱₀ ER (ringRd m) (c : Thread nD τ) none (κ := κ)
      (wpE_semWait_eq 𝒱₀ (c : Thread nD τ) none Set.univ) (Set.mem_univ _) () (O := O c 0) (W := W) (R := 0) (m := 0) (T := ∅)
      (by rw [expect_bar])) $$ [Hc HO Hat]
  · isplitr; · iexact HI
    isplitl [Hc]; · iexact Hc
    isplitl [HO]; · iexact HO
    isplitr; · (iapply hmw; iexact Hctx)
    iexact Hat
  iintro ⟨HO, Hat, -, Hpay⟩
  ihave Hp := (Entails.of_eq ((rest_bar m c).trans (barPay_all c))) $$ Hpay
  imod (Rounds.cell_close ER (ringRd m) (Set.mem_univ κ) (fun h => h) (R := 0 + 1) (duties_later m (bCell c))) $$ [Hat] with Hz
  · isplitr; · iexact HI
    iexact Hat
  iapply (run_frame c (k ⟨⟩) Q (semVal (bCell c) 0))
  isplitr [Hz]
  rotate_left
  · iexact Hz
  iapply H
  rw [St, live_zero_sep]
  isplitr; · iexact Hctx
  isplitl [Hg]; · iexact Hg
  isplitl [HO]; · iexists _; iexact HO
  isplitl [Htok Hp]
  · iapply (Entails.of_eq (bigSep_sep' Finset.univ (tok2 c) fun t => dstAny (F := F) (dst t c) t).symm |>.trans
      (bigSep_mono fun t _ => (show iprop(tok2 c t ∗ dstAny (dst t c) t) ⊢ φ m c (.tok t) from sep_assoc.1)))
    isplitl [Htok]; · iexact Htok
    iexact Hp
  iexact Hrest

end Cert.KernelIdeal.Hand
-- ==== Proof.Pieces.lean ====
/-
# Dealing out the buffers and collecting them again

A buffer is the separate holding of its slots: how the launch's whole buffers become the slots that the steps pass
around, and how the slots at hand after the last step become whole buffers again, the result's with its contents.
-/
module

public import proofs.«01_k».proof.Proof.Start

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families of disjoint sets of elements -/

section sets
variable {ι : Type} [DecidableEq ι] [Fintype ι] {ℓ : Loc nD τ sig} (K : ι → Finset (Idx ℓ))

/-- A whole buffer, with the sets of a disjoint family taken out. -/
theorem deal (hd : ∀ i j, i ≠ j → Disjoint (K i) (K j)) (f : Buf (Elt F) ℓ) :
    (ℓ ↦{fullShare} f : sProp 𝕄) = iprop(bigSep Finset.univ (fun i => (ℓ ↦[K i]{fullShare} f : sProp 𝕄)) ∗ (ℓ ↦[Finset.univ \ Finset.univ.biUnion K]{fullShare} f)) := by
  rw [← pointsTo_biUnion Finset.univ K fun i _ j _ h => hd i j h]
  have h : (ℓ ↦{fullShare} f : sProp 𝕄) ⊣⊢ iprop((ℓ ↦[Finset.univ.biUnion K]{fullShare} f) ∗ ℓ ↦[Finset.univ \ Finset.univ.biUnion K]{fullShare} f) :=
    pointsTo_split_subset (Finset.subset_univ _)
  exact equiv_iff.mp ⟨h.1, h.2⟩

/-- A family that covers the buffer, with what is known of the contents of each set, is the buffer with all of it known. -/
theorem collect (hd : ∀ i j, i ≠ j → Disjoint (K i) (K j)) (hc : Finset.univ.biUnion K = Finset.univ) (f₀ : Buf (Elt F) ℓ)
    (P : ι → Buf (Elt F) ℓ → Prop) (hP : ∀ i f g, (∀ x ∈ K i, g x = f x) → P i f → P i g) :
    bigSep Finset.univ (fun i => iprop(∃ f, ⌜P i f⌝ ∗ (ℓ ↦[K i]{fullShare} f) : sProp 𝕄)) ⊢ iprop(∃ g, ⌜∀ i, P i g⌝ ∗ (ℓ ↦{fullShare} g)) := by
  haveI : Nonempty (Buf (Elt F) ℓ) := ⟨f₀⟩
  iintro H
  ihave H := (bigSep_exists_pi (Y := fun _ : ι => Buf (Elt F) ℓ) Finset.univ (fun i f => iprop(⌜P i f⌝ ∗ (ℓ ↦[K i]{fullShare} f) : sProp 𝕄))) $$ H
  icases H with ⟨%fs, H⟩
  ihave H := (bigSep_pure_sep Finset.univ (fun i => P i (fs i)) (fun i => (ℓ ↦[K i]{fullShare} fs i : sProp 𝕄))) $$ H
  icases H with ⟨%hp, H⟩
  ihave H := (pointsTo_biUnion_join Finset.univ K fs f₀ fun i _ j _ h => hd i j h) $$ H
  icases H with ⟨%g, %hg, H⟩
  rw [hc]
  iexists g
  isplitr
  · ipureintro; exact fun i => hP i (fs i) g (hg i (Finset.mem_univ i)) (hp i (Finset.mem_univ i))
  · iexact H

/-- The same two with nothing said of the contents. -/
theorem deal_any (hd : ∀ i j, i ≠ j → Disjoint (K i) (K j)) (f : Buf (Elt F) ℓ) :
    (ℓ ↦{fullShare} f : sProp 𝕄) ⊢ bigSep Finset.univ (fun i => iprop(∃ g, (ℓ ↦[K i]{fullShare} g) : sProp 𝕄)) := by
  have h (i : ι) : (ℓ ↦[K i]{fullShare} f : sProp 𝕄) ⊢ iprop(∃ g, (ℓ ↦[K i]{fullShare} g)) := by iintro H; iexists f; iexact H
  have h' : bigSep Finset.univ (fun i => (ℓ ↦[K i]{fullShare} f : sProp 𝕄)) ⊢ bigSep Finset.univ (fun i => iprop(∃ g, (ℓ ↦[K i]{fullShare} g) : sProp 𝕄)) :=
    bigSep_mono fun i _ => h i
  rw [deal K hd f]
  iintro ⟨H, -⟩
  iapply h'
  iexact H
theorem collect_any (hd : ∀ i j, i ≠ j → Disjoint (K i) (K j)) (hc : Finset.univ.biUnion K = Finset.univ) (f₀ : Buf (Elt F) ℓ) :
    bigSep Finset.univ (fun i => iprop(∃ g, (ℓ ↦[K i]{fullShare} g) : sProp 𝕄)) ⊢ iprop(∃ g, (ℓ ↦{fullShare} g)) := by
  have h (i : ι) : iprop(∃ g, (ℓ ↦[K i]{fullShare} g) : sProp 𝕄) ⊢ iprop(∃ g, ⌜True⌝ ∗ (ℓ ↦[K i]{fullShare} g)) := by
    iintro ⟨%g, H⟩; iexists g; isplitr
    · ipureintro; trivial
    · iexact H
  have h' : bigSep Finset.univ (fun i => iprop(∃ g, (ℓ ↦[K i]{fullShare} g) : sProp 𝕄))
      ⊢ bigSep Finset.univ (fun i => iprop(∃ g, ⌜True⌝ ∗ (ℓ ↦[K i]{fullShare} g) : sProp 𝕄)) := bigSep_mono fun i _ => h i
  iintro H
  ihave H := h' $$ H
  ihave H := (collect K hd hc f₀ (fun _ _ => True) fun _ _ _ _ _ => trivial) $$ H
  icases H with ⟨%g, -, H⟩
  iexists g; iexact H
end sets

/-- What a memref reads depends on its elements only. -/
theorem reads_of {sp : Space} {s : Shape} {e : EltTy} {M : Memref sig .tc sp s e} {c : Dev nD} {X : Vec F s e}
    {f g : Buf (Elt F) (M.view.loc (c : Thread nD τ))} (h : ∀ x ∈ M.view.set, g x = f x) (hf : M.view.read (Elt F) f = X) : M.view.read (Elt F) g = X :=
  hf ▸ View.read_congr fun i hi => h i hi

section
variable {sp : Space} {s : Shape} {e : EltTy} (c : Dev nD) (M : Memref sig .tc sp s e) (q : PosShare TreeShare)
/-- To own a memref at what it reads of `f`, or at anything, is to hold its elements at `f`, or at anything. -/
theorem owns_eq (f : Buf (Elt F) (M.view.loc (c : Thread nD τ))) :
    (owns (c : Thread nD τ) M q (M.view.read (Elt F) f) : sProp 𝕄) = (M.view.loc (c : Thread nD τ) ↦[M.view.set]{q} f) :=
by
  have h : (M.view.loc (c : Thread nD τ) ↦[M.view.set]{q} f : sProp 𝕄) ⊢ owns (c : Thread nD τ) M q (M.view.read (Elt F) f) := by
    unfold owns
    iintro H; iexists f; isplitr
    · ipureintro; rfl
    · iexact H
  exact equiv_iff.mp ⟨owns_elim c M q f, h⟩
theorem any_eq : iprop(∃ X, owns (c : Thread nD τ) M q X : sProp 𝕄) = iprop(∃ f, (M.view.loc (c : Thread nD τ) ↦[M.view.set]{q} f)) := by
  have h₁ : iprop(∃ X, owns (c : Thread nD τ) M q X : sProp 𝕄) ⊢ iprop(∃ f, (M.view.loc (c : Thread nD τ) ↦[M.view.set]{q} f)) := by
    unfold owns
    iintro ⟨%X, %f, -, H⟩; iexists f; iexact H
  have h₂ : iprop(∃ f, (M.view.loc (c : Thread nD τ) ↦[M.view.set]{q} f) : sProp 𝕄) ⊢ iprop(∃ X, owns (c : Thread nD τ) M q X) := by
    unfold owns
    iintro ⟨%f, H⟩; iexists (M.view.read (Elt F) f); iexists f; isplitr
    · ipureintro; rfl
    · iexact H
  exact equiv_iff.mp ⟨h₁, h₂⟩
end

/-! ## The result's buffer -/

/-- The relative names are the quadruples of their parts. -/
def relEquiv : Fin 2 × Fin 2 × Fin 4 × Fin 2 ≃ Rel where
  toFun x := ⟨x.1, x.2.1, x.2.2.1, x.2.2.2⟩
  invFun r := (r.dx, r.dz, r.k, r.h)
  left_inv _ := rfl
  right_inv _ := rfl
instance : Fintype Rel := Fintype.ofEquiv _ relEquiv

/-- The relative name of the slot that holds an element, and the element's place in it. -/
def dim0 (i : S2x2x4x128x2048.Idx) : Fin 2 := i 0
def dim1 (i : S2x2x4x128x2048.Idx) : Fin 2 := i 1
def dim2 (i : S2x2x4x128x2048.Idx) : Fin 4 := i 2
def relAt (c : Dev nD) (i : S2x2x4x128x2048.Idx) : Rel :=
  ⟨dim0 i - cx c, dim1 i - zg c, cy c + 1 - dim2 i, ⟨(i 3).val / 64, by have : (i 3).val < 128 := (i 3).isLt; omega⟩⟩
def inSlot (i : S2x2x4x128x2048.Idx) : S64x2048.Idx := ix2 ⟨(i 3).val % 64, Nat.mod_lt _ (by decide)⟩ (i 4)
/-- The result's array on device `c` in the end. -/
def outF (c : Dev nD) : (cc0_stg1_0 : Ref sig .tc).ty.Contents (Elt F) := fun i => OutV m c (relAt c i) (inSlot i)

/-- The elements of a slot. -/
abbrev oSet (c : Dev nD) (r : Rel) : Finset S2x2x4x128x2048.Idx := (oSlot c r).view.set
theorem slot_disj (c : Dev nD) (r r' : Rel) (ne : r ≠ r') : Disjoint (oSet c r) (oSet c r') := by
  unfold oSet
  rw [set_slot5, set_slot5]
  refine (Finset.disjoint_map _).mpr (box5_disj fun h => ne ?_)
  obtain ⟨h0, h⟩ := Prod.mk.inj h
  obtain ⟨h1, h⟩ := Prod.mk.inj h
  obtain ⟨h2, h3⟩ := Prod.mk.inj h
  obtain ⟨dx, dz, k, hh⟩ := r
  obtain ⟨dx', dz', k', hh'⟩ := r'
  have e0 : dx = dx' := add_left_cancel h0
  have e1 : dz = dz' := add_left_cancel h1
  have e2 : k = k' := sub_right_injective h2
  subst e0; subst e1; subst e2; cases h3; rfl
/-- An element is the named slot's at its place there. -/
theorem emb_inSlot (c : Dev nD) (i : S2x2x4x128x2048.Idx) : (oSlot c (relAt c i)).view.emb (inSlot i) = i := by
  rw [emb_slot5]
  show ix5 (cx c + (dim0 i - cx c)) (zg c + (dim1 i - zg c)) (cy c + 1 - (cy c + 1 - dim2 i)) (rowOf _ _) (i 4) = i
  funext a
  fin_cases a
  · exact add_sub_cancel (cx c) (dim0 i)
  · exact add_sub_cancel (zg c) (dim1 i)
  · exact sub_sub_cancel (cy c + 1) (dim2 i)
  · exact rowOf_of_div rfl
  · rfl
theorem slot_cover (c : Dev nD) : Finset.univ.biUnion (oSet c) = Finset.univ :=
  Finset.eq_univ_of_forall fun i => Finset.mem_biUnion.mpr ⟨relAt c i, Finset.mem_univ _, by
    have h := (oSlot c (relAt c i)).view.emb_mem_set (inSlot i)
    rwa [emb_inSlot] at h⟩

/-- The whole buffer is the slots; -/
theorem out_open (c : Dev nD) (f : Buf (Elt F) ((c : Thread nD τ).loc cc0_stg1_0)) :
    (((c : Thread nD τ).loc cc0_stg1_0) ↦{fullShare} f : sProp 𝕄) ⊢ bigSep Finset.univ (fun r => iprop(∃ X, owns (c : Thread nD τ) (oSlot c r) fullShare X)) := by
  simp only [any_eq]
  exact deal_any (ℓ := (c : Thread nD τ).loc cc0_stg1_0) (oSet c) (slot_disj c) f
/-- and all the slots filled are the buffer with the result. -/
theorem out_close (c : Dev nD) : bigSep Finset.univ (oPt m c fullShare) ⊢ (((c : Thread nD τ).loc cc0_stg1_0) ↦{fullShare} outF m c : sProp 𝕄) := by
  unfold oPt owns
  iintro H
  ihave H := (collect (ℓ := (c : Thread nD τ).loc cc0_stg1_0) (oSet c) (slot_disj c) (slot_cover c) (outF m c)
    (fun r f => (oSlot c r).view.read (Elt F) f = OutV m c r) fun r f g h hf => reads_of (c := c) h hf) $$ H
  icases H with ⟨%g, %hg, H⟩
  have e : g = outF m c := funext fun i => by
    have h := congrFun (hg (relAt c i)) (inSlot i)
    rw [read_slot5] at h
    have h2 := emb_inSlot c i
    rw [emb_slot5] at h2
    refine Eq.trans ?_ h
    exact congrArg g h2.symm
  rw [e]
  iexact H

end Cert.KernelIdeal.Hand
-- ==== Proof.Begin.lean ====
/-
# The beginning

How the buffers at launch are dealt out into the places and sources of the transfers and copies.
-/
module

public import proofs.«01_k».proof.Proof.Pieces
public import proofs.«01_k».proof.Proof.Regions

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots of whole buffers, by their elements -/

theorem map_whole {b : Ref sig .tc} (s : Finset b.ty.shape.Idx) : s.map (View.whole b).emb = s := by
  ext x; simp

section
variable (c : Dev nD) (a z : Fin 2) (j : Fin 4) (k : Fin 3) (h : Fin 2)
theorem p_slot (f : Buf (Elt F) ((c : Thread nD τ).loc main_arg0)) :
    (owns (c : Thread nD τ) (slot5 pM a z j h) fullShare ((slot5 pM a z j h).view.read (Elt F) f) : sProp 𝕄)
      = (((c : Thread nD τ).loc main_arg0) ↦[box5 a z j h]{fullShare} f) := by
  rw [owns_eq, set_slot5]
  exact congrArg (fun S => (((c : Thread nD τ).loc main_arg0) ↦[S]{fullShare} f : sProp 𝕄)) (map_whole _)
theorem p_chunk (f : Buf (Elt F) ((c : Thread nD τ).loc main_arg0)) :
    (owns (c : Thread nD τ) (chunk5 pM a z j) fullShare ((chunk5 pM a z j).view.read (Elt F) f) : sProp 𝕄)
      = (((c : Thread nD τ).loc main_arg0) ↦[boxc5 a z j]{fullShare} f) := by
  rw [owns_eq, set_chunk5]
  exact congrArg (fun S => (((c : Thread nD τ).loc main_arg0) ↦[S]{fullShare} f : sProp 𝕄)) (map_whole _)
theorem res_chunk (f : Buf (Elt F) ((c : Thread nD τ).loc main_arg1)) :
    (owns (c : Thread nD τ) (chunk5 resM a z j) fullShare ((chunk5 resM a z j).view.read (Elt F) f) : sProp 𝕄)
      = (((c : Thread nD τ).loc main_arg1) ↦[boxc5 a z j]{fullShare} f) := by
  rw [owns_eq, set_chunk5]
  exact congrArg (fun S => (((c : Thread nD τ).loc main_arg1) ↦[S]{fullShare} f : sProp 𝕄)) (map_whole _)
theorem rb_slot : iprop(∃ X, owns (c : Thread nD τ) (slot3 rbM k h) fullShare X : sProp 𝕄)
    = iprop(∃ f, (((c : Thread nD τ).loc cc0_scratch1) ↦[box3 k h]{fullShare} f)) := by
  rw [any_eq, set_slot3]
  exact congrArg (fun S => iprop(∃ f, (((c : Thread nD τ).loc cc0_scratch1) ↦[S]{fullShare} f) : sProp 𝕄)) (map_whole _)
theorem pb_slot : iprop(∃ X, owns (c : Thread nD τ) (slot3 pbM k h) fullShare X : sProp 𝕄)
    = iprop(∃ f, (((c : Thread nD τ).loc cc0_scratch0) ↦[box3 k h]{fullShare} f)) := by
  rw [any_eq, set_slot3]
  exact congrArg (fun S => iprop(∃ f, (((c : Thread nD τ).loc cc0_scratch0) ↦[S]{fullShare} f) : sProp 𝕄)) (map_whole _)
theorem pb_chunk : iprop(∃ X, owns (c : Thread nD τ) (chunk3 pbM k) fullShare X : sProp 𝕄)
    = iprop(∃ f, (((c : Thread nD τ).loc cc0_scratch0) ↦[boxc3 k]{fullShare} f)) := by
  rw [any_eq, set_chunk3]
  exact congrArg (fun S => iprop(∃ f, (((c : Thread nD τ).loc cc0_scratch0) ↦[S]{fullShare} f) : sProp 𝕄)) (map_whole _)
theorem rc_slot : iprop(∃ X, owns (c : Thread nD τ) (slot2 rcM h) fullShare X : sProp 𝕄)
    = iprop(∃ f, (((c : Thread nD τ).loc cc0_scratch2) ↦[box2 h]{fullShare} f)) := by
  rw [any_eq, set_slot2]
  exact congrArg (fun S => iprop(∃ f, (((c : Thread nD τ).loc cc0_scratch2) ↦[S]{fullShare} f) : sProp 𝕄)) (map_whole _)
theorem rc_whole : iprop(∃ X, owns (c : Thread nD τ) rcM fullShare X : sProp 𝕄)
    = iprop(∃ f, (((c : Thread nD τ).loc cc0_scratch2) ↦{fullShare} f)) := by
  rw [any_eq]
  exact congrArg (fun S => iprop(∃ f, (((c : Thread nD τ).loc cc0_scratch2) ↦[S]{fullShare} f) : sProp 𝕄)) (View.set_whole _)
end

/-! ## The arguments -/

/-- The parts of the partial's array that a device reads: the two halves of one chunk and three whole chunks. -/
def pSet (c : Dev nD) : Fin 2 ⊕ Fin 3 → Finset S2x2x4x128x2048.Idx
  | .inl h => box5 (cx c) (zg c) (cy c) h
  | .inr k => boxc5 (cx c) (zg c) (cy c - 1 - k.castSucc)
theorem boxc5_of_box5 (a z : Fin 2) (j : Fin 4) (h : Fin 2) : box5 a z j h ⊆ boxc5 a z j := fun x hx =>
  let ⟨_, h0, h1, h2, _⟩ := Finset.mem_filter.mp hx
  Finset.mem_filter.mpr ⟨Finset.mem_univ x, h0, h1, h2⟩
theorem chunk_ne (y : Fin 4) (k : Fin 3) : y - 1 - k.castSucc ≠ y := by revert y k; decide
theorem chunk_inj (y : Fin 4) (k k' : Fin 3) (h : y - 1 - k.castSucc = y - 1 - k'.castSucc) : k = k' := by revert y k k'; decide
theorem pSet_disj (c : Dev nD) (i j : Fin 2 ⊕ Fin 3) (ne : i ≠ j) : Disjoint (pSet c i) (pSet c j) := by
  rcases i with h | k <;> rcases j with h' | k'
  · exact box5_disj fun e => ne (congrArg Sum.inl (Prod.mk.inj (Prod.mk.inj (Prod.mk.inj e).2).2).2)
  · exact (boxc5_disj fun e => chunk_ne (cy c) k' (Prod.mk.inj (Prod.mk.inj e).2).2.symm).mono_left (boxc5_of_box5 _ _ _ _)
  · exact (boxc5_disj fun e => chunk_ne (cy c) k (Prod.mk.inj (Prod.mk.inj e).2).2).mono_right (boxc5_of_box5 _ _ _ _)
  · exact boxc5_disj fun e => ne (congrArg Sum.inr (chunk_inj _ _ _ (Prod.mk.inj (Prod.mk.inj e).2).2))

/-- What is left of the two arguments' arrays when the parts a device reads are taken out. -/
def restP (c : Dev nD) : sProp 𝕄 :=
  iprop(((c : Thread nD τ).loc main_arg0) ↦[Finset.univ \ Finset.univ.biUnion (pSet c)]{fullShare} pA m c)
def resSet (c : Dev nD) : Unit → Finset S2x2x4x128x2048.Idx := fun _ => boxc5 (cx c) (zg c) (cy c + 1)
def restR (c : Dev nD) : sProp 𝕄 :=
  iprop(((c : Thread nD τ).loc main_arg1) ↦[Finset.univ \ Finset.univ.biUnion (resSet c)]{fullShare} rA m c)

theorem four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem three {M : Type} [URA M] (Φ : Fin 3 → sProp M) : bigSep Finset.univ Φ = iprop(Φ 0 ∗ Φ 1 ∗ Φ 2) :=
  bigSep_univ_eq_bigSepL [0, 1, 2] (by decide) (by decide) Φ

theorem arg0_eq (c : Dev nD) : (((c : Thread nD τ).loc main_arg0) ↦{fullShare} pA m c : sProp 𝕄)
    = iprop((bigSep Finset.univ (fun h => srcPt m c (.r0 h)) ∗ cpSrc m c 0 ∗ cpSrc m c 1 ∗ cpSrc m c 2) ∗ restP m c) := by
  refine (deal (ℓ := (c : Thread nD τ).loc main_arg0) (pSet c) (pSet_disj c) (pA m c)).trans ?_
  rw [bigSep_univ_sum, three]
  have e0 (h : Fin 2) : srcPt (F := F) m c (.r0 h) = iprop(((c : Thread nD τ).loc main_arg0) ↦[pSet c (.inl h)]{fullShare} pA m c) :=
    p_slot c (cx c) (zg c) (cy c) h (pA m c)
  have e1 : cpSrc (F := F) m c 0 = iprop(((c : Thread nD τ).loc main_arg0) ↦[pSet c (.inr 0)]{fullShare} pA m c) :=
    p_chunk c (cx c) (zg c) (cy c - 1 - (0 : Fin 3).castSucc) (pA m c)
  have e2 : cpSrc (F := F) m c 1 = iprop(((c : Thread nD τ).loc main_arg0) ↦[pSet c (.inr 1)]{fullShare} pA m c) :=
    p_chunk c (cx c) (zg c) (cy c - 1 - (1 : Fin 3).castSucc) (pA m c)
  have e3 : cpSrc (F := F) m c 2 = iprop(((c : Thread nD τ).loc main_arg0) ↦[pSet c (.inr 2)]{fullShare} pA m c) :=
    p_chunk c (cx c) (zg c) (cy c - 1 - (2 : Fin 3).castSucc) (pA m c)
  rw [bigSep_congr fun h _ => e0 h, e1, e2, e3]
  rfl
theorem arg1_eq (c : Dev nD) : (((c : Thread nD τ).loc main_arg1) ↦{fullShare} rA m c : sProp 𝕄) = iprop(cpSrc m c 3 ∗ restR m c) := by
  refine (deal (ℓ := (c : Thread nD τ).loc main_arg1) (resSet c) (fun i j ne => absurd rfl ne) (rA m c)).trans ?_
  rw [show (Finset.univ : Finset Unit) = {()} from rfl, bigSep_singleton]
  have e : cpSrc (F := F) m c 3 = iprop(((c : Thread nD τ).loc main_arg1) ↦[resSet c ()]{fullShare} rA m c) :=
    res_chunk c (cx c) (zg c) (cy c + 1) (rA m c)
  rw [e]
  rfl

/-! ## The scratch buffers -/

theorem box3_disj' (i j : Fin 3 × Fin 2) (ne : i ≠ j) : Disjoint (box3 i.1 i.2) (box3 j.1 j.2) := box3_disj ne
theorem box3_cover : Finset.univ.biUnion (fun kh : Fin 3 × Fin 2 => box3 kh.1 kh.2) = Finset.univ :=
  Finset.eq_univ_of_forall fun i => Finset.mem_biUnion.mpr
    ⟨((i 0 : Fin 3), ⟨(i 1).val / 64, by have : (i 1).val < 128 := (i 1).isLt; omega⟩), Finset.mem_univ _,
      Finset.mem_filter.mpr ⟨Finset.mem_univ _, rfl, rfl⟩⟩
theorem boxc3_disj (k k' : Fin 3) (ne : k ≠ k') : Disjoint (boxc3 k) (boxc3 k') :=
  Finset.disjoint_left.mpr fun x hx hx' =>
    ne (Fin.ext ((Finset.mem_filter.mp hx).2.symm.trans (Finset.mem_filter.mp hx').2))
theorem box2_disj' (i j : Fin 2) (ne : i ≠ j) : Disjoint (box2 i) (box2 j) :=
  Finset.disjoint_left.mpr fun x hx hx' =>
    ne (Fin.ext ((Finset.mem_filter.mp hx).2.symm.trans (Finset.mem_filter.mp hx').2))
theorem box2_cover : Finset.univ.biUnion box2 = Finset.univ :=
  Finset.eq_univ_of_forall fun i => Finset.mem_biUnion.mpr
    ⟨⟨(i 0).val / 64, by have : (i 0).val < 128 := (i 0).isLt; omega⟩, Finset.mem_univ _, Finset.mem_filter.mpr ⟨Finset.mem_univ _, rfl⟩⟩

/-- The ring buffer as half chunks, and back. -/
theorem rb_open (c : Dev nD) (f : Buf (Elt F) ((c : Thread nD τ).loc cc0_scratch1)) : (((c : Thread nD τ).loc cc0_scratch1) ↦{fullShare} f : sProp 𝕄)
    ⊢ bigSep Finset.univ (fun kh : Fin 3 × Fin 2 => iprop(∃ X, owns (c : Thread nD τ) (slot3 rbM kh.1 kh.2) fullShare X)) := by
  simp only [rb_slot]
  exact deal_any (ℓ := (c : Thread nD τ).loc cc0_scratch1) (fun kh : Fin 3 × Fin 2 => box3 kh.1 kh.2) box3_disj' f
theorem rb_close (c : Dev nD) (f₀ : Buf (Elt F) ((c : Thread nD τ).loc cc0_scratch1)) :
    bigSep Finset.univ (fun kh : Fin 3 × Fin 2 => iprop(∃ X, owns (c : Thread nD τ) (slot3 rbM kh.1 kh.2) fullShare X : sProp 𝕄))
    ⊢ iprop(∃ f, (((c : Thread nD τ).loc cc0_scratch1) ↦{fullShare} f)) := by
  simp only [rb_slot]
  exact collect_any (ℓ := (c : Thread nD τ).loc cc0_scratch1) (fun kh : Fin 3 × Fin 2 => box3 kh.1 kh.2) box3_disj' box3_cover f₀
/-- The buffer of the copied chunks as chunks, and back from half chunks. -/
theorem pb_open (c : Dev nD) (f : Buf (Elt F) ((c : Thread nD τ).loc cc0_scratch0)) : (((c : Thread nD τ).loc cc0_scratch0) ↦{fullShare} f : sProp 𝕄)
    ⊢ bigSep Finset.univ (fun k : Fin 3 => iprop(∃ X, owns (c : Thread nD τ) (chunk3 pbM k) fullShare X)) := by
  simp only [pb_chunk]
  exact deal_any (ℓ := (c : Thread nD τ).loc cc0_scratch0) boxc3 boxc3_disj f
theorem pb_close (c : Dev nD) (f₀ : Buf (Elt F) ((c : Thread nD τ).loc cc0_scratch0)) :
    bigSep Finset.univ (fun kh : Fin 3 × Fin 2 => iprop(∃ X, owns (c : Thread nD τ) (slot3 pbM kh.1 kh.2) fullShare X : sProp 𝕄))
    ⊢ iprop(∃ f, (((c : Thread nD τ).loc cc0_scratch0) ↦{fullShare} f)) := by
  simp only [pb_slot]
  exact collect_any (ℓ := (c : Thread nD τ).loc cc0_scratch0) (fun kh : Fin 3 × Fin 2 => box3 kh.1 kh.2) box3_disj' box3_cover f₀
theorem rc_close (c : Dev nD) (f₀ : Buf (Elt F) ((c : Thread nD τ).loc cc0_scratch2)) :
    bigSep Finset.univ (fun h : Fin 2 => iprop(∃ X, owns (c : Thread nD τ) (slot2 rcM h) fullShare X : sProp 𝕄))
    ⊢ iprop(∃ f, (((c : Thread nD τ).loc cc0_scratch2) ↦{fullShare} f)) := by
  simp only [rc_slot]
  exact collect_any (ℓ := (c : Thread nD τ).loc cc0_scratch2) box2 box2_disj' box2_cover f₀

/-! ## The places -/

/-- The place of each transfer among the slots of the result and of the ring buffer; the last two are the slots a device
    fills itself. -/
def placeOf : T ⊕ Fin 2 → Rel ⊕ (Fin 3 × Fin 2)
  | .inl (.r0 h) => .inr (0, h)
  | .inl (.rs s h) => .inr (s.succ, h)
  | .inl t => .inl (rcvRel t)
  | .inr h => .inl ⟨0, 0, 0, h⟩
theorem placeOf_bij : Function.Bijective placeOf := ⟨by decide +kernel, by decide +kernel⟩

/-- Where the transfers to device `c` land, and the two slots it fills itself, are its slots. -/
theorem places (c : Dev nD) :
    iprop(bigSep Finset.univ (fun r => iprop(∃ X, owns (c : Thread nD τ) (oSlot c r) fullShare X : sProp 𝕄))
        ∗ bigSep Finset.univ (fun kh : Fin 3 × Fin 2 => iprop(∃ X, owns (c : Thread nD τ) (slot3 rbM kh.1 kh.2) fullShare X)))
      = iprop(bigSep Finset.univ (dstAny (F := F) c) ∗ bigSep Finset.univ (fun h => φ m c (.own0 h))) := by
  let Φ : Rel ⊕ (Fin 3 × Fin 2) → sProp 𝕄 := fun
    | .inl r => iprop(∃ X, owns (c : Thread nD τ) (oSlot c r) fullShare X)
    | .inr kh => iprop(∃ X, owns (c : Thread nD τ) (slot3 rbM kh.1 kh.2) fullShare X)
  have h : bigSep Finset.univ Φ = bigSep Finset.univ (fun a => Φ (placeOf a)) := bigSep_univ_equiv (Equiv.ofBijective _ placeOf_bij) Φ
  rw [bigSep_univ_sum, bigSep_univ_sum] at h
  refine h.trans ?_
  have e : (fun t => Φ (placeOf (.inl t))) = dstAny (F := F) c := funext fun t => by cases t <;> rfl
  rw [← e]
  rfl

/-! ## The first state -/

/-- A device's scratch buffers with any contents, and its two arguments in HBM. -/
def scr (c : Dev nD) : sProp 𝕄 :=
  iprop((∃ f : Buf (Elt F) ((c : Thread nD τ).loc cc0_scratch0), (((c : Thread nD τ).loc cc0_scratch0) ↦{fullShare} f))
    ∗ (∃ f : Buf (Elt F) ((c : Thread nD τ).loc cc0_scratch1), (((c : Thread nD τ).loc cc0_scratch1) ↦{fullShare} f))
    ∗ (∃ f : Buf (Elt F) ((c : Thread nD τ).loc cc0_scratch2), (((c : Thread nD τ).loc cc0_scratch2) ↦{fullShare} f)))
def args (c : Dev nD) : sProp 𝕄 :=
  iprop((((c : Thread nD τ).loc main_arg0) ↦{fullShare} pA m c) ∗ (((c : Thread nD τ).loc main_arg1) ↦{fullShare} rA m c))
/-- The tokens, positions and credits a device starts from. -/
def ghost (c : Dev nD) : sProp 𝕄 :=
  iprop(ctx m ∗ bigSep Finset.univ (fun d => dutyTok ER (bCell (payee d c)) 0 d) ∗ atPos ER (bCell c) 0 ∅ 0 ∗ cred (tallyAt (bCell c) () 4)
    ∗ bigSep Finset.univ (tok2 (F := F) c) ∗ bigSep Finset.univ (fun t => cred (tallyAt (rCell c t) () NH))
    ∗ bigSep Finset.univ (fun i => dutyTok ER (cCell c i) 0 0) ∗ bigSep Finset.univ (fun i => atPos ER (cell c (osem i)) 0 ∅ 0))
/-- What it owes: its signals and its deliveries. -/
def owed₀ (c : Dev nD) : CellTallies nD τ sig Unit := O c 0 + ∑ d ∈ Finset.univ, tallyAt (bCell (payee d c)) () 1

theorem cpAny_all (c : Dev nD) : iprop(bigSep Finset.univ (fun k : Fin 3 => iprop(∃ X, owns (c : Thread nD τ) (chunk3 pbM k) fullShare X : sProp 𝕄))
    ∗ (∃ f, (((c : Thread nD τ).loc cc0_scratch2) ↦{fullShare} f))) ⊢ bigSep Finset.univ (cpAny (F := F) c) := by
  have e (k : Fin 3) : cpAny (F := F) c k.castSucc = iprop(∃ X, owns (c : Thread nD τ) (chunk3 pbM k) fullShare X) := by
    revert k; rw [Fin.forall_fin_succ, Fin.forall_fin_two]; exact ⟨rfl, rfl, rfl⟩
  have e3 : cpAny (F := F) c 3 = iprop(∃ X, owns (c : Thread nD τ) rcM fullShare X) := rfl
  rw [three, four, ← rc_whole, ← e3, ← e, ← e, ← e]
  iintro ⟨⟨H0, H1, H2⟩, H3⟩
  isplitl [H0]; · iexact H0
  isplitl [H1]; · iexact H1
  isplitl [H2]; · iexact H2
  iexact H3

theorem begins (c : Dev nD) :
    iprop(ghost m c ∗ args m c ∗ scr c ∗ owns (c : Thread nD τ) gM fullShare (gA m c) ∗ (∃ W, owes (c : Thread nD τ) (owed₀ c) W)
      ∗ (∃ f, (((c : Thread nD τ).loc cc0_stg1_0) ↦{fullShare} f)))
    ⊢ iprop(SB m c Finset.univ ∗ restP m c ∗ restR m c) := by
  unfold ghost args scr SB
  rw [arg0_eq, arg1_eq]
  iintro ⟨⟨Hctx, Hd, Hat, Hc, Htok, Hrcr, Hct, Hpos⟩, ⟨⟨⟨Hsrc, H0, H1, H2⟩, HrP⟩, H3, HrR⟩, ⟨⟨%f0, Hs0⟩, ⟨%f1, Hs1⟩, Hs2⟩, Hg, HO, ⟨%fo, Hout⟩⟩
  ihave Hout := (out_open c fo) $$ Hout
  ihave Hs1 := (rb_open c f1) $$ Hs1
  ihave Hs0 := (pb_open c f0) $$ Hs0
  ihave Hpl := (Entails.of_eq (places m c)) $$ [Hout Hs1]
  · isplitl [Hout]; · iexact Hout
    iexact Hs1
  icases Hpl with ⟨Hdst, Hown⟩
  ihave Hany := (cpAny_all c) $$ [Hs0 Hs2]
  · isplitl [Hs0]; · iexact Hs0
    iexact Hs2
  have hb : bigSep Finset.univ (dstAny (F := F) c) = bigSep Finset.univ (fun d => barPay (F := F) (payee d c) d) := by
    rw [← by_class (dstAny (F := F) c)]
    refine bigSep_congr fun d _ => bigSep_congr fun t ht => ?_
    have hd : cls t = d := (Finset.mem_filter.mp ht).2
    subst hd
    rw [dst_payee]
  ihave Hbar := (Entails.of_eq hb) $$ Hdst
  isplitr [HrP HrR]
  rotate_left
  · isplitl [HrP]; · iexact HrP
    iexact HrR
  isplitl [Hctx]; · iexact Hctx
  isplitl [Hg]; · iexact Hg
  isplitl [HO]; · iexact HO
  isplitl [Hd Hbar]
  · iapply (Entails.of_eq (bigSep_sep' Finset.univ (fun d => (dutyTok ER (bCell (payee d c)) 0 d : sProp 𝕄)) fun d => barPay (F := F) (payee d c) d).symm)
    isplitl [Hd]; · iexact Hd
    iexact Hbar
  isplitl [Hat]; · iexact Hat
  isplitl [Hc]; · iexact Hc
  isplitl [Htok]; · iexact Htok
  isplitl [Hrcr]; · iexact Hrcr
  isplitl [Hsrc]; · iexact Hsrc
  isplitl [Hct H0 H1 H2 H3 Hany]
  · have hs : bigSep Finset.univ (fun i => φ m c (.ctok i))
        = iprop(bigSep Finset.univ (fun i => (dutyTok ER (cCell c i) 0 0 : sProp 𝕄)) ∗ bigSep Finset.univ (cpSrc (F := F) m c) ∗ bigSep Finset.univ (cpAny (F := F) c)) := by
      rw [← bigSep_sep', ← bigSep_sep']; rfl
    iapply (Entails.of_eq hs.symm)
    isplitl [Hct]; · iexact Hct
    isplitr [Hany]
    rotate_left
    · iexact Hany
    rw [four]
    isplitl [H0]; · iexact H0
    isplitl [H1]; · iexact H1
    isplitl [H2]; · iexact H2
    iexact H3
  isplitl [Hpos]; · iexact Hpos
  iexact Hown

end Cert.KernelIdeal.Hand
-- ==== Proof.Finish.lean ====
/-
# The end

The links at hand after the last step are whole buffers again, with the result, and every semaphore is at zero.
-/
module

public import proofs.«01_k».proof.Proof.Begin

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The links at hand in the end, by what they are parts of -/

/-- The things a device holds in the end: the slots of the result, the half chunks of the ring buffer, of the copied
    chunks and of the copied residual, the sources of the transfers and of the copies, and the semaphores. -/
abbrev Held : Type := Rel ⊕ (Fin 3 × Fin 2) ⊕ (Fin 3 × Fin 2) ⊕ Fin 2 ⊕ Fin 2 ⊕ Fin 4 ⊕ Fin 92

instance : DecidableEq Held :=
  have : DecidableEq ((Fin 3 × Fin 2) ⊕ (Fin 3 × Fin 2) ⊕ Fin 2 ⊕ Fin 2 ⊕ Fin 4 ⊕ Fin 92) := inferInstance
  @instDecidableEqSum _ _ inferInstance this

/-- The links that make up a slot of the result: the shares come back from three transfers, or one link. -/
def heldRel (r : Rel) : List Lk :=
  if r.dx = 0 then
    if r.dz = 0 then [if r.k = 3 then .fin (.ag 2 r.h) else .back (.ag (Fin.ofNat 3 r.k.val) r.h), .back (.ex r.k r.h), .back (.ez r.k r.h)]
    else if r.h = 1 then [.back (.fx r.k)] else [.fin (.ez r.k 0)]
  else
    if r.dz = 0 then (if r.h = 0 then [.back (.fz r.k)] else [.fin (.ex r.k 1)])
    else if r.h = 0 then [.fin (.fz r.k)] else [.fin (.fx r.k)]
/-- The semaphore's own link: done with, or never used. -/
def heldSem (i : Fin 92) : List Lk := if (waitOf (role (osem i))).from ≤ 122 then [.zero i] else [.pos i]
def held : Held → List Lk
  | .inl r => heldRel r
  | .inr (.inl (k, h)) => [if k = 2 then .rawE h else if k = 0 then .back (.rs 0 h) else .back (.rs 1 h)]
  | .inr (.inr (.inl (k, h))) => [.pbE k h]
  | .inr (.inr (.inr (.inl h))) => [.rcE h]
  | .inr (.inr (.inr (.inr (.inl h)))) => [.back (.r0 h)]
  | .inr (.inr (.inr (.inr (.inr (.inl i))))) => [.cbk i]
  | .inr (.inr (.inr (.inr (.inr (.inr i))))) => heldSem i

/-- The thing a link at hand in the end is part of. -/
def holder : Lk → Held
  | .back (.r0 h) => .inr (.inr (.inr (.inr (.inl h))))
  | .back (.rs s h) => .inr (.inl (s.castSucc, h))
  | .back t => .inl (srcRel t)
  | .fin (.ag _ h) => .inl ⟨0, 0, 3, h⟩
  | .fin t => .inl (rcvRel t)
  | .rawE h => .inr (.inl (2, h))
  | .pbE k h => .inr (.inr (.inl (k, h)))
  | .rcE h => .inr (.inr (.inr (.inl h)))
  | .cbk i => .inr (.inr (.inr (.inr (.inr (.inl i)))))
  | .zero i | .pos i => .inr (.inr (.inr (.inr (.inr (.inr i)))))
  | _ => .inl ⟨0, 0, 0, 0⟩

/-- Every link of a thing is at hand in the end and is part of that thing alone. -/
theorem held_spec : ∀ o : Held, (held o).Nodup ∧ ∀ x ∈ held o, x ∈ Live 122 ∧ holder x = o := by
  have h : ∀ o : Held, (held o).Nodup ∧ ∀ x ∈ held o, ((made x).from ≤ 122 ∧ 122 ≤ (used x).upto) ∧ holder x = o := by decide +kernel
  exact fun o => ⟨(h o).1, fun x hx => ⟨mem_live.mpr ((h o).2 x hx).1, ((h o).2 x hx).2⟩⟩

/-- A family over a disjoint union is the families over its parts. -/
theorem bigSep_parts {M : Type} [URA M] {I J : Type} [DecidableEq I] [DecidableEq J] (Φ : J → sProp M) (t : I → Finset J) (s : Finset I)
    (hd : ∀ i ∈ s, ∀ j ∈ s, i ≠ j → Disjoint (t i) (t j)) : bigSep (s.biUnion t) Φ = bigSep s (fun i => bigSep (t i) Φ) := by
  induction s using Finset.induction_on with
  | empty => rw [Finset.biUnion_empty, bigSep_empty, bigSep_empty]
  | insert i s hi ih =>
    rw [Finset.biUnion_insert, bigSep_insert hi, bigSep_join, ih fun i hi j hj => hd i (Finset.mem_insert_of_mem hi) j (Finset.mem_insert_of_mem hj)]
    · rfl
    rw [Finset.disjoint_biUnion_right]
    exact fun j hj => hd i (Finset.mem_insert_self i s) j (Finset.mem_insert_of_mem hj) (fun e => hi (e ▸ hj))

theorem live_end {M : Type} [URA M] (Φ : Lk → sProp M) : bigSep (Live 122) Φ ⊢ bigSep Finset.univ (fun o => sepL Φ (held o)) := by
  have h1 : (fun o => sepL Φ (held o)) = fun o => bigSep (held o).toFinset Φ := funext fun o => (sepL_eq Φ (held_spec o).1).symm
  rw [h1, ← bigSep_parts Φ (fun o => (held o).toFinset) Finset.univ]
  · exact bigSep_subset fun x hx => by
      obtain ⟨o, -, ho⟩ := Finset.mem_biUnion.mp hx
      exact ((held_spec o).2 x (List.mem_toFinset.mp ho)).1
  · intro i _ j _ ne
    rw [Finset.disjoint_left]
    intro x hx hx'
    exact ne (((held_spec i).2 x (List.mem_toFinset.mp hx)).2.symm.trans ((held_spec j).2 x (List.mem_toFinset.mp hx')).2)

end Cert.KernelIdeal.Hand
-- ==== Proof.Ends.lean ====
/-
# The state after the last step

The slots, chunks and semaphores at hand in the end put together.
-/
module

public import proofs.«01_k».proof.Proof.Finish

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Each thing whole again -/

theorem owns_unshare {sp : Space} {s : Shape} {e : EltTy} (c : Dev nD) (M : Memref sig .tc sp s e) (q : PosShare TreeShare) (X : Vec F s e) :
    iprop(owns (c : Thread nD τ) M q.left X ∗ owns (c : Thread nD τ) M q.right X) ⊢ (owns (c : Thread nD τ) M q X : sProp 𝕄) := by
  have h (f : Buf (Elt F) (M.view.loc (c : Thread nD τ))) :
      iprop((M.view.loc (c : Thread nD τ) ↦[M.view.set]{q.left} f) ∗ owns (c : Thread nD τ) M q.right (M.view.read (Elt F) f))
      ⊢ (owns (c : Thread nD τ) M q (M.view.read (Elt F) f) : sProp 𝕄) := by
    rw [owns_eq, owns_eq]
    exact (pointsTo_share (PosShare.mem_left_op_right q)).2
  iintro ⟨H, H'⟩
  ihave H := (show owns (c : Thread nD τ) M q.left X ⊢ iprop(∃ f, ⌜M.view.read (Elt F) f = X⌝ ∗ (M.view.loc (c : Thread nD τ) ↦[M.view.set]{q.left} f)) from Entails.refl _) $$ H
  icases H with ⟨%f, %hf, H⟩
  subst hf
  iapply (h f)
  isplitl [H]; · iexact H
  iexact H'
theorem unshare3 (c : Dev nD) (r : Rel) :
    iprop(oPt m c fullShare.left r ∗ oPt m c fullShare.right.left r ∗ oPt m c fullShare.right.right r) ⊢ oPt m c fullShare r := by
  unfold oPt
  exact (sep_mono_right (owns_unshare c _ _ _)).trans (owns_unshare c _ _ _)

theorem unpad (A : sProp 𝕄) : iprop(A ∗ emp) ⊢ A := by iintro ⟨H, -⟩; iexact H
theorem unpad3 (A B C : sProp 𝕄) : iprop(A ∗ B ∗ C ∗ emp) ⊢ iprop(A ∗ B ∗ C) := sep_mono_right (sep_mono_right (unpad C))

/-- A slot of the result is filled. -/
theorem rel_end (c : Dev nD) (r : Rel) : sepL (φ m c) (heldRel r) ⊢ oPt m c fullShare r := by
  obtain ⟨dx, dz, k, h⟩ := r
  revert dx dz
  rw [Fin.forall_fin_two]
  refine ⟨?_, ?_⟩ <;> rw [Fin.forall_fin_two] <;> refine ⟨?_, ?_⟩
  · by_cases hk : k = 3
    · subst hk
      exact (unpad3 _ _ _).trans (unshare3 m c ⟨0, 0, 3, h⟩)
    · have e : heldRel ⟨0, 0, k, h⟩ = [.back (.ag (Fin.ofNat 3 k.val) h), .back (.ex k h), .back (.ez k h)] := by
        show [if k = 3 then _ else _, _, _] = _
        rw [if_neg hk]
      have e2 : (Fin.ofNat 3 k.val).castSucc = k := by clear * - hk; revert k; decide
      rw [e]
      show iprop(oPt m c fullShare.left ⟨0, 0, (Fin.ofNat 3 k.val).castSucc, h⟩ ∗ oPt m c fullShare.right.left ⟨0, 0, k, h⟩
        ∗ oPt m c fullShare.right.right ⟨0, 0, k, h⟩ ∗ emp) ⊢ _
      rw [e2]
      exact (unpad3 _ _ _).trans (unshare3 m c ⟨0, 0, k, h⟩)
  · revert h
    rw [Fin.forall_fin_two]
    exact ⟨unpad _, unpad _⟩
  · revert h
    rw [Fin.forall_fin_two]
    exact ⟨unpad _, unpad _⟩
  · revert h
    rw [Fin.forall_fin_two]
    exact ⟨unpad _, unpad _⟩

theorem some_contents {sp : Space} {s : Shape} {e : EltTy} (c : Dev nD) (M : Memref sig .tc sp s e) (X : Vec F s e) :
    iprop(owns (c : Thread nD τ) M fullShare X ∗ emp : sProp 𝕄) ⊢ iprop(∃ X, owns (c : Thread nD τ) M fullShare X) := by
  iintro ⟨H, -⟩; iexists X; iexact H

theorem rb_end (c : Dev nD) (kh : Fin 3 × Fin 2) :
    sepL (φ m c) (held (.inr (.inl kh))) ⊢ iprop(∃ X, owns (c : Thread nD τ) (slot3 rbM kh.1 kh.2) fullShare X) := by
  obtain ⟨k, h⟩ := kh
  revert k
  rw [Fin.forall_fin_succ, Fin.forall_fin_two]
  exact ⟨some_contents c (slot3 rbM 0 h) (U m 0 c h), some_contents c (slot3 rbM 1 h) (U m 1 c h), some_contents c (slot3 rbM 2 h) (R m 2 c h)⟩

/-- A semaphore is at zero. -/
theorem sem_end (c : Dev nD) (i : Fin 92) :
    iprop(ctx m ∗ sepL (φ m c) (heldSem i)) ⊢ iprop(|={Set.univ}=> semVal (cell c (osem i)) 0) := by
  unfold heldSem
  split
  · unfold sepL
    iintro ⟨-, H, -⟩
    imodintro
    ihave H := (show φ m c (.zero i) ⊢ semVal (cell c (osem i)) 0 from Entails.refl _) $$ H
    iexact H
  · next h =>
    have hr : role (osem i) = .none := by
      cases e : role (osem i) with
      | none => rfl
      | snd t => exact absurd (by rw [e]; exact Nat.succ_le_of_lt (idx_lt _)) h
      | rcv t => exact absurd (by rw [e]; exact Nat.succ_le_of_lt (idx_lt _)) h
      | cpy i => exact absurd (by rw [e]; exact Nat.succ_le_of_lt (idx_lt _)) h
    unfold sepL
    iintro ⟨#Hctx, H, -⟩
    ihave H := (show φ m c (.pos i) ⊢ atPos ER (cell c (osem i)) 0 ∅ 0 from Entails.refl _) $$ H
    ihave #⟨⟨%κ, HI⟩, -⟩ := (ctx_own m c i rfl) $$ Hctx
    iapply (Rounds.cell_close ER (ringRd m) (Set.mem_univ κ) (fun h => h) (R := 0) (fun r _ => duties_unused m c hr r))
    isplitr; · iexact HI
    iexact H

/-- What a device holds after its body: arguments and scratch buffers, the gain row, the result, nothing owed, and every
    semaphore at zero. -/
theorem ends (c : Dev nD) :
    iprop((St m c 122 ∗ semVal (bCell c) 0) ∗ restP m c ∗ restR m c)
    ⊢ iprop(|={Set.univ}=> (args m c ∗ scr c ∗ owns (c : Thread nD τ) gM fullShare (gA m c) ∗ (∃ W, owes (c : Thread nD τ) 0 W)
      ∗ (((c : Thread nD τ).loc cc0_stg1_0) ↦{fullShare} outF m c) ∗ bigSep Finset.univ (fun i => semVal (cell c (osem i)) 0) ∗ semVal (bCell c) 0)) := by
  have hs : iprop(ctx m ∗ bigSep Finset.univ (fun i => sepL (φ m c) (heldSem i)))
      ⊢ iprop(|={Set.univ}=> bigSep Finset.univ (fun i => semVal (cell c (osem i)) 0) : sProp 𝕄) := by
    have h1 : iprop(ctx m ∗ bigSep Finset.univ (fun i => sepL (φ m c) (heldSem i))) ⊢ bigSep Finset.univ (fun i => iprop(|={Set.univ}=> semVal (cell c (osem i)) 0 : sProp 𝕄)) :=
      bigSep_with_persistent fun i _ => sem_end m c i
    exact h1.trans (bigSep_fupd _ _)
  have hl : bigSep (Live 122) (φ m c) ⊢ iprop(bigSep Finset.univ (fun r => sepL (φ m c) (held (.inl r)))
      ∗ bigSep Finset.univ (fun kh => sepL (φ m c) (held (.inr (.inl kh)))) ∗ bigSep Finset.univ (fun kh => sepL (φ m c) (held (.inr (.inr (.inl kh)))))
      ∗ bigSep Finset.univ (fun h => sepL (φ m c) (held (.inr (.inr (.inr (.inl h)))))) ∗ bigSep Finset.univ (fun h => sepL (φ m c) (held (.inr (.inr (.inr (.inr (.inl h)))))))
      ∗ bigSep Finset.univ (fun i => sepL (φ m c) (held (.inr (.inr (.inr (.inr (.inr (.inl i)))))))) ∗ bigSep Finset.univ (fun i => sepL (φ m c) (heldSem i))) := by
    refine (live_end (φ m c)).trans (Entails.of_eq ?_)
    rw [bigSep_univ_sum, bigSep_univ_sum, bigSep_univ_sum, bigSep_univ_sum, bigSep_univ_sum, bigSep_univ_sum]
    rfl
  have h0 : bigSep Finset.univ (fun r => sepL (φ m c) (held (.inl r))) ⊢ bigSep Finset.univ (oPt m c fullShare) := bigSep_mono fun r _ => rel_end m c r
  have h1 : bigSep Finset.univ (fun kh => sepL (φ m c) (held (.inr (.inl kh))))
      ⊢ bigSep Finset.univ (fun kh : Fin 3 × Fin 2 => iprop(∃ X, owns (c : Thread nD τ) (slot3 rbM kh.1 kh.2) fullShare X)) := bigSep_mono fun r _ => rb_end m c r
  have h2 : bigSep Finset.univ (fun kh => sepL (φ m c) (held (.inr (.inr (.inl kh)))))
      ⊢ bigSep Finset.univ (fun kh : Fin 3 × Fin 2 => iprop(∃ X, owns (c : Thread nD τ) (slot3 pbM kh.1 kh.2) fullShare X)) :=
    bigSep_mono fun r _ => some_contents c (slot3 pbM r.1 r.2) (PB m c r.1.val r.2)
  have h3 : bigSep Finset.univ (fun h => sepL (φ m c) (held (.inr (.inr (.inr (.inl h))))))
      ⊢ bigSep Finset.univ (fun h => iprop(∃ X, owns (c : Thread nD τ) (slot2 rcM h) fullShare X)) :=
    bigSep_mono fun h _ => some_contents c (slot2 rcM h) (RR m c h)
  have h4 : bigSep Finset.univ (fun h => sepL (φ m c) (held (.inr (.inr (.inr (.inr (.inl h)))))))
      ⊢ bigSep Finset.univ (fun h => srcPt m c (.r0 h)) := bigSep_mono fun h _ => unpad _
  have h5 : bigSep Finset.univ (fun i => sepL (φ m c) (held (.inr (.inr (.inr (.inr (.inr (.inl i))))))))
      ⊢ bigSep Finset.univ (cpSrc m c) := bigSep_mono fun h _ => unpad _
  rw [four (cpSrc m c)] at h5
  unfold St args scr
  rw [O_end, arg0_eq, arg1_eq]
  iintro ⟨⟨⟨#Hctx, Hg, HO, HL⟩, Hb⟩, HrP, HrR⟩
  ihave HL := hl $$ HL
  icases HL with ⟨H0, H1, H2, H3, H4, H5, H6⟩
  ihave H0 := h0 $$ H0
  ihave H0 := (out_close m c) $$ H0
  ihave H1 := h1 $$ H1
  ihave H1 := (rb_close c (m ((c : Thread nD τ).loc cc0_scratch1))) $$ H1
  ihave H2 := h2 $$ H2
  ihave H2 := (pb_close c (m ((c : Thread nD τ).loc cc0_scratch0))) $$ H2
  ihave H3 := h3 $$ H3
  ihave H3 := (rc_close c (m ((c : Thread nD τ).loc cc0_scratch2))) $$ H3
  ihave H4 := h4 $$ H4
  ihave H5 := h5 $$ H5
  icases H5 with ⟨Hc0, Hc1, Hc2, Hc3⟩
  imod hs $$ [H6] with Hz
  · isplitr; · iexact Hctx
    iexact H6
  imodintro
  isplitl [H4 Hc0 Hc1 Hc2 Hc3 HrP HrR]
  · isplitl [H4 Hc0 Hc1 Hc2 HrP]
    · isplitr [HrP]
      rotate_left
      · iexact HrP
      isplitl [H4]; · iexact H4
      isplitl [Hc0]; · iexact Hc0
      isplitl [Hc1]; · iexact Hc1
      iexact Hc2
    isplitl [Hc3]; · iexact Hc3
    iexact HrR
  isplitl [H1 H2 H3]
  · isplitl [H2]; · iexact H2
    isplitl [H1]; · iexact H1
    iexact H3
  isplitl [Hg]; · iexact Hg
  isplitl [HO]; · iexact HO
  isplitl [H0]; · iexact H0
  isplitl [Hz]; · iexact Hz
  iexact Hb

end Cert.KernelIdeal.Hand
-- ==== Proof.Setup.lean ====
/-
# The launch's ghost state

The cells, their tokens and credits at launch, and how the tokens come to the devices that use them.
-/
module

public import proofs.«01_k».proof.Proof.Ends
public import proofs.«01_k».proof.Proof.Gen.KernelIdeal.Launch
public import Idealize.ShloMosaic.Lib.Pipeline.Launch
public import Idealize.ShloMosaic.Lib.Pipeline.Kit

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

theorem ownSemFacts : Pipeline.OwnSemFacts cfg0.spec osem := by decide +kernel

abbrev kcell (ck : Dev nD × Option (Fin 92)) : GSem nD τ sig := cell ck.1 (csem ck.2)
theorem csem_inj : Function.Injective csem := by
  intro a b h
  cases a with
  | none => cases b with
    | none => rfl
    | some j => cases h
  | some i => cases b with
    | none => cases h
    | some j =>
      injection h with h
      have := Fin.val_eq_of_eq h
      exact congrArg some (Fin.ext (by simpa using this))
theorem kcell_inj : Function.Injective kcell := fun ⟨c, k⟩ ⟨c', k'⟩ h => by
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

/-- A device's duties at its own cells: its barrier's four, one for each sending, receiving and copying semaphore. -/
abbrev Duty : Type := Fin 4 ⊕ T ⊕ T ⊕ Fin 4
def dutySem : Duty → SemLoc sig × Fin 4
  | .inl d => (.reg barS, d)
  | .inr (.inl t) => (.dma (sS t), 0)
  | .inr (.inr (.inl t)) => (.dma (rS t), 0)
  | .inr (.inr (.inr i)) => (.dma (cS i), 0)
theorem dutySem_inj : Function.Injective dutySem := by
  intro a b h
  rcases a with d | t | t | i <;> rcases b with d' | t' | t' | i' <;>
    (have h1 := (Prod.mk.inj h).1; have h2 := (Prod.mk.inj h).2; first | cases h1; done | skip)
  · exact congrArg Sum.inl h2
  all_goals
    have hr := congrArg role h1
    simp only [role_sS, role_rS, role_cS] at hr
    first | (injection hr with e; rw [e]) | cases hr
abbrev tokOf (cj : Dev nD × Duty) : GSem nD τ sig × ℕ × Fin 4 := (cell cj.1 (dutySem cj.2).1, 0, (dutySem cj.2).2)
theorem tokOf_inj : Function.Injective tokOf := fun ⟨c, j⟩ ⟨c', j'⟩ h => by
  have h1 : c = c' := congrArg (fun x : GSem nD τ sig × ℕ × Fin 4 => x.1.1.1) h
  have h2 : j = j' := dutySem_inj (Prod.ext (congrArg (fun x : GSem nD τ sig × ℕ × Fin 4 => x.1.2) h) (congrArg (fun x : GSem nD τ sig × ℕ × Fin 4 => x.2.2) h))
  rw [h1, h2]
def ringToks : Finset (GSem nD τ sig × ℕ × Fin 4) := Finset.univ.map ⟨tokOf, tokOf_inj⟩

/-- The two protocols' ghost state at launch: the staging pipeline's and the ring's. -/
def u₀ : UU :=
  (initOf (Pipeline.cells cfgs cellOf_inj) (Pipeline.launchToks cfgs cellOf_inj), initOf ringCells ringToks)

/-- The tokens of a device's own cells, -/
def toks (c : Dev nD) : sProp 𝕄 :=
  iprop(bigSep Finset.univ (fun d => dutyTok ER (bCell c) 0 d) ∗ bigSep Finset.univ (fun t => dutyTok ER (sCell c t) 0 0)
    ∗ bigSep Finset.univ (fun t => dutyTok ER (rCell c t) 0 0) ∗ bigSep Finset.univ (fun i => dutyTok ER (cCell c i) 0 0))
/-- and of the duties it pays. -/
def payToks (c : Dev nD) : sProp 𝕄 :=
  iprop(bigSep Finset.univ (fun d => dutyTok ER (bCell (payee d c)) 0 d) ∗ bigSep Finset.univ (fun t => dutyTok ER (sCell c t) 0 0)
    ∗ bigSep Finset.univ (fun t => dutyTok ER (rCell (dst t c) t) 0 0) ∗ bigSep Finset.univ (fun i => dutyTok ER (cCell c i) 0 0))
/-- What the launch deals a device. -/
def dealt (c : Dev nD) : sProp 𝕄 :=
  iprop((bigSep Finset.univ fun k => roundState ER (ringRd m) (kcell (c, k)) 0)
    ∗ (bigSep Finset.univ fun k => iprop(atPos ER (kcell (c, k)) 0 ∅ 0 ∗ reached ER (kcell (c, k)) 0)) ∗ toks c)
/-- What it starts from when the tokens have gone to those who pay. -/
def armed (c : Dev nD) : sProp 𝕄 :=
  iprop(bigSep Finset.univ (known (F := F) m) ∗ (bigSep Finset.univ fun k => atPos ER (kcell (c, k)) 0 ∅ 0) ∗ payToks c)

theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_univ_sum]; rfl
  have hG : bigSep Finset.univ (dealt m) = iprop((bigSep Finset.univ fun c => bigSep Finset.univ fun k => roundState ER (ringRd m) (kcell (c, k)) 0)
      ∗ ((bigSep Finset.univ fun c => bigSep Finset.univ fun k => atPos ER (kcell (c, k)) 0 ∅ 0) ∗ (bigSep Finset.univ fun c => bigSep Finset.univ fun k => reached ER (kcell (c, k)) 0))
      ∗ bigSep Finset.univ toks) := by
    unfold dealt; simp only [bigSep_sep']
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (Entails.of_eq hG.symm)
  isplitl [Hst']; · iexact Hst'
  isplitl [Hat' Hr']
  · isplitl [Hat']; · iexact Hat'
    iexact Hr'
  iexact Htok'

/-! ## The cells' invariants -/

theorem option_sep {M : Type} [URA M] {n : ℕ} (Φ : Option (Fin n) → sProp M) :
    bigSep Finset.univ Φ = iprop(Φ none ∗ bigSep Finset.univ (fun i => Φ (some i))) := by
  have e : (Finset.univ : Finset (Option (Fin n))).erase none = Finset.univ.map ⟨some, Option.some_injective _⟩ := by
    ext x; cases x <;> simp
  rw [bigSep_univ_at _ none, e, bigSep_map]
  rfl

theorem unscopedSems0_eq (c : Dev nD) : (unscopedSems0 c : sProp 𝕄) = semVal (bCell c) 0 := by
  unfold unscopedSems0; rw [bigSep_eq_bigSepL_of_eq [SemLoc.reg barS] (by decide +kernel) (by decide +kernel)]; rfl
theorem ownSems0_eq (c : Dev nD) : (Pipeline.ownSems0 (Ix := Unit) (Name := ℕ) (U := UU) (Lvl := ℕ) (Val := Elt F) (τ := τ) osem c : sProp 𝕄)
    = bigSep Finset.univ (fun i => semVal (cell c (osem i)) 0) := rfl

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop(bigSep Finset.univ (fun k => known (F := F) m (c, k)) ∗ (bigSep Finset.univ fun k => atPos ER (kcell (c, k)) 0 ∅ 0) ∗ toks c) := by
  have hk : bigSep Finset.univ (fun k => known (F := F) m (c, k)) = iprop((bigSep Finset.univ fun k => iprop(∃ κ : ℕ, cellInv ER (ringRd m) κ (kcell (c, k))))
      ∗ bigSep Finset.univ fun k => reached ER (kcell (c, k)) 0) := by rw [← bigSep_sep']; rfl
  have hv : bigSep Finset.univ (fun k => (semVal (kcell (c, k)) 0 : sProp 𝕄)) = iprop(semVal (bCell c) 0 ∗ bigSep Finset.univ (fun i => semVal (cell c (osem i)) 0)) :=
    option_sep _
  have ha : iprop((bigSep Finset.univ fun k => semVal (kcell (c, k)) 0) ∗ bigSep Finset.univ fun k => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold dealt
  rw [ownSems0_eq, unscopedSems0_eq, bigSep_sep', hk]
  iintro ⟨Hos, Hus, Hst, ⟨Hat, Hr⟩, Htok⟩
  ihave Hv := (Entails.of_eq hv.symm) $$ [Hos Hus]
  · isplitl [Hus]; · iexact Hus
    iexact Hos
  imod ha $$ [Hv Hst] with Hinv
  · isplitl [Hv]; · iexact Hv
    iexact Hst
  imodintro
  isplitl [Hinv Hr]
  · isplitl [Hinv]; · iexact Hinv
    iexact Hr
  isplitl [Hat]; · iexact Hat
  iexact Htok

/-! ## The tokens go to those who pay -/

theorem around {I : Type} [Fintype I] [DecidableEq I] (e : I → Dev nD ≃ Dev nD) (f : I → Dev nD → sProp 𝕄) :
    bigSep Finset.univ (fun c => bigSep Finset.univ fun i => f i c) = bigSep Finset.univ (fun c => bigSep Finset.univ fun i => f i (e i c)) := by
  rw [bigSep_univ_comm, bigSep_univ_comm (fun c i => f i (e i c))]
  exact bigSep_congr fun i _ => bigSep_univ_equiv (e i) (f i)
def payeeE (d : Fin 4) : Dev nD ≃ Dev nD := ⟨payee d, payer d, payer_payee d, payee_payer d⟩
def dstE (t : T) : Dev nD ≃ Dev nD := ⟨dst t, org t, org_dst t, dst_org t⟩
theorem toks_around : (bigSep Finset.univ fun c => (toks c : sProp 𝕄)) = bigSep Finset.univ fun c => payToks c := by
  unfold toks payToks
  simp only [bigSep_sep']
  rw [around payeeE (fun d c => (dutyTok ER (bCell c) 0 d : sProp 𝕄)), around dstE (fun t c => (dutyTok ER (rCell c t) 0 0 : sProp 𝕄))]
  rfl

theorem regroup :
    (bigSep Finset.univ fun c => iprop(bigSep Finset.univ (fun k => known (F := F) m (c, k)) ∗ (bigSep Finset.univ fun k => atPos ER (kcell (c, k)) 0 ∅ 0) ∗ toks c) : sProp 𝕄)
      ⊢ bigSep Finset.univ (armed m) := by
  have hp : iprop(bigSep Finset.univ (known (F := F) m) ∗ bigSep Finset.univ fun c => iprop((bigSep Finset.univ fun k => atPos ER (kcell (c, k)) 0 ∅ 0) ∗ payToks (F := F) c))
      ⊢ bigSep Finset.univ (armed m) := bigSep_with_persistent fun c _ => Entails.refl _
  rw [bigSep_sep'] at hp
  rw [bigSep_sep', bigSep_sep', ← bigSep_univ_prod (known (F := F) m), toks_around]
  exact hp

/-- The step of all devices together. -/
theorem arm : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (armed m) :=
  ((bigSep_mono fun c _ => core_alloc m c).trans (bigSep_fupd _ _)).trans (BI.fupd_mono (regroup m))

/-! ## The credits -/

theorem O_zero (c : Dev nD) : O c 0 = ∑ t : T, tallyAt (rCell (dst t c) t) () NH := by
  have e : Pend 0 = Finset.univ := by ext t; simp [Pend]
  rw [O, e, Osum]
theorem rCell_iff {a b : Dev nD} {t t' : T} : rCell a t = rCell b t' ↔ a = b ∧ t = t' :=
  ⟨fun h => ⟨congrArg (fun g : GSem nD τ sig => g.1.1) h, by
    have := congrArg role (congrArg (fun g : GSem nD τ sig => g.2) h)
    simp only [role_rS] at this
    injection this⟩, fun ⟨h, h'⟩ => by rw [h, h']⟩
theorem bCell_iff {a b : Dev nD} : bCell a = bCell b ↔ a = b :=
  ⟨fun h => congrArg (fun g : GSem nD τ sig => g.1.1) h, fun h => by rw [h]⟩
theorem r_ne_b (a b : Dev nD) (t : T) : rCell a t ≠ bCell b := fun h => by cases (congrArg Prod.snd h)
theorem b_ne_r (a b : Dev nD) (t : T) : bCell a ≠ rCell b t := fun h => by cases (congrArg Prod.snd h)
theorem owed_apply (d : Dev nD) (g : GSem nD τ sig) :
    owed₀ d g () = (∑ t : T, if g = rCell (dst t d) t then NH else 0) + ∑ k : Fin 4, if g = bCell (payee k d) then 1 else 0 := by
  rw [owed₀, O_zero, Pi.add_apply, Finsupp.add_apply, Finset.sum_apply, Finset.sum_apply, Finsupp.finset_sum_apply, Finsupp.finset_sum_apply]
  simp only [tallyAt_apply, and_true]
theorem launch_rcv (c : Dev nD) (t : T) :
    tallyOn (rCell c t) (launchCredit (Pipeline.owing owed₀) 0 (rCell c t)) = (tallyAt (rCell c t) () NH : CellTallies nD τ sig Unit) := by
  unfold tallyAt; refine congrArg _ (Finsupp.ext fun u => ?_); cases u
  have e1 (d : Dev nD) : owed₀ d (rCell c t) () = if d = org t c then NH else 0 := by
    rw [owed_apply, Finset.sum_eq_zero (s := (Finset.univ : Finset (Fin 4))) fun k _ => if_neg (r_ne_b _ _ _), add_zero,
      Finset.sum_eq_single t (fun t' _ ht => if_neg fun h => ht (rCell_iff.mp h).2.symm) (fun h => absurd (Finset.mem_univ t) h)]
    by_cases h : d = org t c
    · rw [if_pos h, if_pos (by rw [h, dst_org])]
    · rw [if_neg h, if_neg fun e => h (by rw [(rCell_iff.mp e).1, org_dst])]
  rw [Pipeline.launchCredit_owing, Finsupp.single_eq_same, Finset.sum_congr rfl fun d _ => e1 d, Finset.sum_ite_eq' Finset.univ (org t c) fun _ => NH, if_pos (Finset.mem_univ _)]
theorem launch_bar (c : Dev nD) :
    tallyOn (bCell c) (launchCredit (Pipeline.owing owed₀) 0 (bCell c)) = (tallyAt (bCell c) () 4 : CellTallies nD τ sig Unit) := by
  unfold tallyAt; refine congrArg _ (Finsupp.ext fun u => ?_); cases u
  have e1 (d : Dev nD) : owed₀ d (bCell c) () = ∑ k : Fin 4, if d = payer k c then 1 else 0 := by
    rw [owed_apply, Finset.sum_eq_zero (s := (Finset.univ : Finset T)) fun k _ => if_neg (b_ne_r _ _ _), zero_add]
    refine Finset.sum_congr rfl fun k _ => ?_
    by_cases h : d = payer k c
    · rw [if_pos h, if_pos (by rw [h, payee_payer])]
    · rw [if_neg h, if_neg fun e => h (by rw [bCell_iff.mp e, payer_payee])]
  rw [Pipeline.launchCredit_owing, Finsupp.single_eq_same, Finset.sum_congr rfl fun d _ => e1 d, Finset.sum_comm,
    Finset.sum_congr rfl fun k _ => (Finset.sum_ite_eq' Finset.univ (payer k c) fun _ => 1).trans (if_pos (Finset.mem_univ _))]
  rfl

/-- The semaphores a device has credit at from the start. -/
def crSem : Option T → SemLoc sig
  | none => .reg barS
  | some t => .dma (rS t)
theorem crSem_inj : Function.Injective crSem := by
  intro a b h
  cases a with
  | none => cases b with
    | none => rfl
    | some j => cases h
  | some i => cases b with
    | none => cases h
    | some j =>
      have := congrArg role h
      simp only [crSem, role_rS] at this
      injection this with e; rw [e]
theorem creds (c : Dev nD) :
    (Pipeline.launchCred owed₀ c : sProp 𝕄) ⊢ iprop(cred (tallyAt (bCell c) () 4) ∗ bigSep Finset.univ (fun t => cred (tallyAt (rCell c t) () NH))) := by
  have e : (Finset.univ : Finset (Option T)) = insert none (Finset.univ.map ⟨some, Option.some_injective _⟩) := by
    ext x; cases x <;> simp
  have h : bigSep (Finset.univ.map ⟨crSem, crSem_inj⟩) (fun sm => (cred (tallyOn (cell c sm) (launchCredit (Pipeline.owing owed₀) 0 (cell c sm))) : sProp 𝕄))
      = iprop(cred (tallyAt (bCell c) () 4) ∗ bigSep Finset.univ (fun t => cred (tallyAt (rCell c t) () NH))) := by
    rw [bigSep_map, e, bigSep_insert (by simp), bigSep_map]
    exact congrArg₂ (fun A B : sProp 𝕄 => iprop(A ∗ B)) (congrArg cred (launch_bar c)) (bigSep_congr fun t _ => congrArg cred (launch_rcv c t))
  rw [← h]
  exact bigSep_subset (Finset.subset_univ _)

end Cert.KernelIdeal.Hand
-- ==== Proof.Places.lean ====
/-
# Where the kernel's offsets and device numbers point

The offsets and neighbour numbers that the kernel computes in machine words, as places and devices of the mesh; the
credit of a wait; and what the stored vectors are.
-/
module

public import proofs.«01_k».proof.Proof.Start

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI

variable {F : FTy → Type} [FloatOps F]
variable (m : (ℓ : Loc nD τ sig) → Buf (Elt F) ℓ)

/-- On every device the offset `off` is that of the slot at `r`. -/
def At (off : Dev nD → Fin 5 → ℕ) (r : Rel) : Prop := ∀ c, off c = off5 (ax c r) (az c r) (ay c r) r.h
instance (off r) : Decidable (At off r) := by unfold At; infer_instance

theorem at5 : At k0_off5 ⟨0, 0, 0, 0⟩ := by decide +kernel
theorem at6 : At k0_off6 ⟨0, 0, 0, 0⟩ := by decide +kernel
theorem at7 : At k0_off7 ⟨0, 0, 0, 1⟩ := by decide +kernel
theorem at8 : At k0_off8 ⟨0, 0, 0, 1⟩ := by decide +kernel
theorem at9 : ∀ s : Fin 3, At (fun c => k0_off9 c (BitVec.ofNat 32 s.val)) ⟨0, 0, s.succ, 0⟩ := by decide +kernel
theorem at10 : ∀ s : Fin 3, At (fun c => k0_off10 c (BitVec.ofNat 32 s.val)) ⟨0, 0, s.succ, 1⟩ := by decide +kernel
theorem at11 : At k0_off11 ⟨1, 0, 0, 0⟩ := by decide +kernel
theorem at12 : At k0_off12 ⟨0, 1, 0, 1⟩ := by decide +kernel
theorem at13 : ∀ s : Fin 3, At (fun c => k0_off13 c (BitVec.ofNat 32 s.val)) ⟨1, 0, s.succ, 0⟩ := by decide +kernel
theorem at14 : ∀ s : Fin 3, At (fun c => k0_off14 c (BitVec.ofNat 32 s.val)) ⟨0, 1, s.succ, 1⟩ := by decide +kernel
theorem at3 : ∀ c, k0_off3 c = off5 (cx c) (zg c) (cy c) 0 := by decide +kernel
theorem at4 : ∀ c, k0_off4 c = off5 (cx c) (zg c) (cy c) 1 := by decide +kernel
theorem at1 : ∀ k : Fin 3, ∀ c, k0_off1 c (BitVec.ofNat 32 k.val) = offc5 (cx c) (zg c) (cy c - 1 - k.castSucc) := by decide +kernel
theorem at2 : ∀ c, k0_off2 c = offc5 (cx c) (zg c) (cy c + 1) := by decide +kernel

/-- The credits of half a chunk and of a chunk, wherever they lie. -/
theorem cr5 {sp : Space} {M : Memref sig .tc sp S2x2x4x128x2048 .f32} {off : Fin 5 → ℕ} {hb} :
    ((M.slice (Rect.unit off S1x1x1x64x2048.size hb) (fun _ => rfl)).squeeze S64x2048 squeezes_S1x1x1x64x2048_S64x2048).view.dmaCredit = NH := rfl
theorem cr3 {M : Memref sig .tc .vmem S3x128x2048 .f32} {off : Fin 3 → ℕ} {hb} :
    ((M.slice (Rect.unit off S1x64x2048.size hb) (fun _ => rfl)).squeeze S64x2048 squeezes_S1x64x2048_S64x2048).view.dmaCredit = NH := rfl
theorem crc5 {sp : Space} {M : Memref sig .tc sp S2x2x4x128x2048 .f32} {off : Fin 5 → ℕ} {hb} :
    ((M.slice (Rect.unit off S1x1x1x128x2048.size hb) (fun _ => rfl)).squeeze S128x2048 squeezes_S1x1x1x128x2048_S128x2048).view.dmaCredit = NC := rfl
theorem crc3 {M : Memref sig .tc .vmem S3x128x2048 .f32} {off : Fin 3 → ℕ} {hb} :
    ((M.slice (Rect.unit off S1x128x2048.size hb) (fun _ => rfl)).squeeze S128x2048 squeezes_S1x128x2048_S128x2048).view.dmaCredit = NC := rfl

section
variable {c : Dev nD} {a b r : Vec F S1x64x2048 .f32} {x : Vec F S64x2048 .f32}

/-- The sum that the ring passes on. -/
theorem pay_upd {s : ℕ} {h : Fin 2} (ea : shapeCast S64x2048 a shapeCasts_S1x64x2048_S64x2048 = R m s c h)
    (eb : shapeCast S64x2048 b shapeCasts_S1x64x2048_S64x2048 = PB m c s h) :
    k0_pay1 a b = shapeCast S1x64x2048 (U m s c h) shapeCasts_S64x2048_S1x64x2048 := by rw [U, ← ea, ← eb]; rfl
theorem pay_upd' {s : ℕ} {h : Fin 2} (ea : shapeCast S64x2048 a shapeCasts_S1x64x2048_S64x2048 = R m s c h)
    (eb : shapeCast S64x2048 b shapeCasts_S1x64x2048_S64x2048 = PB m c s h) :
    k0_pay5 (k0_pay4 a) b = shapeCast S1x64x2048 (U m s c h) shapeCasts_S64x2048_S1x64x2048 := by rw [U, ← ea, ← eb]; rfl

/-- The normalised part of a device, in both halves. -/
theorem pay_own {h : Fin 2} (ea : shapeCast S64x2048 a shapeCasts_S1x64x2048_S64x2048 = R m 2 c h)
    (eb : shapeCast S64x2048 b shapeCasts_S1x64x2048_S64x2048 = PB m c 2 h) :
    k0_pay7 (k0_pay6 a b) (RR m c h) (gA m c) = shapeCast S1x1x1x64x2048 (Own m c h) shapeCasts_S64x2048_S1x1x1x64x2048 := by
  rw [Own, ← ea, ← eb]; rfl
theorem pay_own' {h : Fin 2} (ea : shapeCast S64x2048 a shapeCasts_S1x64x2048_S64x2048 = R m 2 c h)
    (eb : shapeCast S64x2048 b shapeCasts_S1x64x2048_S64x2048 = PB m c 2 h) :
    k0_pay10 (k0_pay8 a b (RR m c h)) (k0_pay9 a b (RR m c h)) (gA m c) = shapeCast S1x1x1x64x2048 (Own m c h) shapeCasts_S64x2048_S1x1x1x64x2048 := by
  rw [Own, ← ea, ← eb]; rfl
end

end Cert.KernelIdeal.Hand
-- ==== Proof.Walk.lean ====
/-
# The run of one device: the sums on the ring

Step by step through the kernel's body, in the parts it is printed in: from the state before a part to the state after it.
-/
module

public import proofs.«01_k».proof.Proof.Places
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

abbrev Body (F : FTy → Type) [FloatOps F] (α : Type) : Type 1 := Prog (TpuEff nD τ sig (Elt F) Λ₀ .tc) α

/-- A part of the body, given the arrays and semaphores it runs on. -/
@[reducible] def onDev {β : Type 1}
    (p : (arg0 : Memref sig .tc .hbm S2x2x4x128x2048 .f32) → arg0.IsWhole → (arg1 : Memref sig .tc .hbm S2x2x4x128x2048 .f32) → arg1.IsWhole →
      (arg2 : Memref sig .tc .vmem S1x2048 .f32) → arg2.IsWhole → (arg3 : Memref sig .tc .vmem S2x2x4x128x2048 .f32) → arg3.IsWhole →
      (arg4 : Memref sig .tc .vmem S3x128x2048 .f32) → arg4.IsWhole → (arg5 : Memref sig .tc .vmem S3x128x2048 .f32) → arg5.IsWhole →
      (arg6 : Memref sig .tc .vmem S128x2048 .f32) → arg6.IsWhole → DmaSems sig S3x2 → DmaSems sig S3x2 → DmaSems sig S3x2 → DmaSems sig S3x2 →
      DmaSems sig S4x2 → DmaSems sig S4x2 → DmaSems sig S4x2 → DmaSems sig S4x2 → DmaSems sig S4x2 → DmaSems sig S4x2 → DmaSems sig S4x2 → DmaSems sig S4x2 →
      DmaSems sig S4 → β) : β :=
  p pM (Memref.isWhole_whole _) resM (Memref.isWhole_whole _) gM (Memref.isWhole_whole _) outM (Memref.isWhole_whole _) pbM (Memref.isWhole_whole _)
    rbM (Memref.isWhole_whole _) rcM (Memref.isWhole_whole _) cc0_scratch3 cc0_scratch4 cc0_scratch5 cc0_scratch6 cc0_scratch7 cc0_scratch8 cc0_scratch9
    cc0_scratch10 cc0_scratch11 cc0_scratch12 cc0_scratch13 cc0_scratch14 cc0_scratch15

variable {c : Dev nD}

theorem part4 {v5 : BitVec 32} {k : (PUnit) → Body F α} {Q : α → sProp 𝕄}
    (H : St m c 2 ⊢ run c (k ⟨⟩) Q) :
    St m c 1 ⊢ run c (onDev (k0_part4 (F := F)) c v5 >>= k) Q := by
  rw [onDev, k0_part4_eq_skeleton]; unfold k0_part4_skel
  simp only [Prog.lift, Prog.bind_op, Prog.bind_ret, Prog.pure_eq_ret]
  exact step_cp_p m c 1 rfl (at1 1) rfl H

theorem part5 {v2 v8 v19 : BitVec 32} {k : (PUnit) → Body F α} {Q : α → sProp 𝕄}
    (H : St m c 5 ⊢ run c (k ⟨⟩) Q) :
    St m c 2 ⊢ run c (onDev (k0_part5 (F := F)) c v2 v8 v19 >>= k) Q := by
  rw [onDev, k0_part5_eq_skeleton]; unfold k0_part5_skel
  simp only [Prog.lift, Prog.bind_op, Prog.bind_ret, Prog.pure_eq_ret]
  refine step_cp_p m c 2 rfl (at1 2) rfl ?_
  refine step_cp_r m c rfl at2 rfl ?_
  exact step_r0 m c 0 rfl at3 (by decide +kernel) rfl rfl H

theorem part6 {v2 v8 v19 : BitVec 32} {k : (PUnit) → Body F α} {Q : α → sProp 𝕄}
    (H : St m c 8 ⊢ run c (k ⟨⟩) Q) :
    St m c 5 ⊢ run c (onDev (k0_part6 (F := F)) c v2 v8 v19 >>= k) Q := by
  rw [onDev, k0_part6_eq_skeleton]; unfold k0_part6_skel
  simp only [Prog.lift, Prog.bind_op, Prog.bind_ret, Prog.pure_eq_ret]
  refine step_r0 m c 1 rfl at4 (by decide +kernel) rfl rfl ?_
  refine step_cw m c 0 rfl rfl crc3 ?_
  exact step_sw m c (.r0 0) rfl rfl cr5 H

theorem part7 {v2 v8 v19 : BitVec 32} {k : (PUnit) → Body F α} {Q : α → sProp 𝕄}
    (H : St m c 11 ⊢ run c (k ⟨⟩) Q) :
    St m c 8 ⊢ run c (onDev (k0_part7 (F := F)) c v2 v8 v19 >>= k) Q := by
  rw [onDev, k0_part7_eq_skeleton]; unfold k0_part7_skel
  simp only [Prog.lift, Prog.bind_op, Prog.bind_ret, Prog.pure_eq_ret]
  refine step_rw m c (.r0 0) rfl rfl cr3 ?_
  refine step_ld m c (.raw 0 0) (by decide) shapeCasts_S1x64x2048_S64x2048 rfl fun w₁ e₁ => ?_
  refine step_ld m c (.pb 0 0) (by decide) shapeCasts_S1x64x2048_S64x2048 rfl fun w₂ e₂ => ?_
  refine step_ld m c (.raw 0 0) (by decide) shapeCasts_S1x64x2048_S64x2048 rfl fun _ _ => ?_
  refine step_upd m c 0 0 rfl (pay_upd m e₁ e₂) ?_
  exact step_rs m c 0 0 rfl (by decide +kernel) rfl rfl H

theorem part8 {v2 v8 v19 : BitVec 32} {k : (PUnit) → Body F α} {Q : α → sProp 𝕄}
    (H : St m c 14 ⊢ run c (k ⟨⟩) Q) :
    St m c 11 ⊢ run c (onDev (k0_part8 (F := F)) c v2 v8 v19 >>= k) Q := by
  rw [onDev, k0_part8_eq_skeleton]; unfold k0_part8_skel
  simp only [Prog.lift, Prog.bind_op, Prog.bind_ret, Prog.pure_eq_ret]
  refine step_sw m c (.r0 1) rfl rfl cr5 ?_
  refine step_rw m c (.r0 1) rfl rfl cr3 ?_
  refine step_ld m c (.raw 0 1) (by decide) shapeCasts_S1x64x2048_S64x2048 rfl fun w₁ e₁ => ?_
  refine step_ld m c (.pb 0 1) (by decide) shapeCasts_S1x64x2048_S64x2048 rfl fun w₂ e₂ => ?_
  refine step_ld m c (.raw 0 1) (by decide) shapeCasts_S1x64x2048_S64x2048 rfl fun _ _ => ?_
  exact step_upd m c 0 1 rfl (pay_upd m e₁ e₂) H

theorem part9 {v2 v8 v19 : BitVec 32} {k : (PUnit) → Body F α} {Q : α → sProp 𝕄}
    (H : St m c 17 ⊢ run c (k ⟨⟩) Q) :
    St m c 14 ⊢ run c (onDev (k0_part9 (F := F)) c v2 v8 v19 >>= k) Q := by
  rw [onDev, k0_part9_eq_skeleton]; unfold k0_part9_skel
  simp only [Prog.lift, Prog.bind_op, Prog.bind_ret, Prog.pure_eq_ret]
  refine step_rs m c 0 1 rfl (by decide +kernel) rfl rfl ?_
  refine step_cw m c 1 rfl rfl crc3 ?_
  exact step_sw m c (.rs 0 0) rfl rfl cr3 H

theorem part10 {v2 v8 v19 : BitVec 32} {k : (PUnit) → Body F α} {Q : α → sProp 𝕄}
    (H : St m c 19 ⊢ run c (k ⟨⟩) Q) :
    St m c 17 ⊢ run c (onDev (k0_part10 (F := F)) v2 v8 v19 >>= k) Q := by
  rw [onDev, k0_part10_eq_skeleton]; unfold k0_part10_skel
  simp only [Prog.lift, Prog.bind_op, Prog.bind_ret, Prog.pure_eq_ret]
  refine step_rw m c (.rs 0 0) rfl rfl cr3 ?_
  refine step_ld m c (.raw 1 0) (by decide) shapeCasts_S1x64x2048_S64x2048 rfl fun w₁ e₁ => ?_
  refine step_ld m c (.pb 1 0) (by decide) shapeCasts_S1x64x2048_S64x2048 rfl fun w₂ e₂ => ?_
  refine step_ld m c (.raw 1 0) (by decide) shapeCasts_S1x64x2048_S64x2048 rfl fun _ _ => ?_
  exact step_upd m c 1 0 rfl (pay_upd m e₁ e₂) H

theorem part11 {v2 v8 v19 : BitVec 32} {k : (FVec F S64x2048 .f32) → Body F α} {Q : α → sProp 𝕄}
    (H : ∀ w : Vec F S1x64x2048 .f32, shapeCast S64x2048 w shapeCasts_S1x64x2048_S64x2048 = R m 1 c 1 → (St m c 22 ⊢ run c (k (k0_pay4 w)) Q)) :
    St m c 19 ⊢ run c (onDev (k0_part11 (F := F)) c v2 v8 v19 >>= k) Q := by
  rw [onDev, k0_part11_eq_skeleton]; unfold k0_part11_skel
  simp only [Prog.lift, Prog.bind_op, Prog.bind_ret, Prog.pure_eq_ret]
  refine step_rs m c 1 0 rfl (by decide +kernel) rfl rfl ?_
  refine step_sw m c (.rs 0 1) rfl rfl cr3 ?_
  refine step_rw m c (.rs 0 1) rfl rfl cr3 ?_
  refine step_ld m c (.raw 1 1) (by decide) shapeCasts_S1x64x2048_S64x2048 rfl fun w₁ e₁ => ?_
  exact H w₁ e₁

theorem part12 {v2 v8 v19 : BitVec 32} {w₁ : Vec F S1x64x2048 .f32} (e₁ : shapeCast S64x2048 w₁ shapeCasts_S1x64x2048_S64x2048 = R m 1 c 1) {k : (PUnit) → Body F α} {Q : α → sProp 𝕄}
    (H : St m c 25 ⊢ run c (k ⟨⟩) Q) :
    St m c 22 ⊢ run c (onDev (k0_part12 (F := F)) c v2 v8 v19 (k0_pay4 w₁) >>= k) Q := by
  rw [onDev, k0_part12_eq_skeleton]; unfold k0_part12_skel
  simp only [Prog.lift, Prog.bind_op, Prog.bind_ret, Prog.pure_eq_ret]
  refine step_ld m c (.pb 1 1) (by decide) shapeCasts_S1x64x2048_S64x2048 rfl fun w₂ e₂ => ?_
  refine step_ld m c (.raw 1 1) (by decide) shapeCasts_S1x64x2048_S64x2048 rfl fun _ _ => ?_
  refine step_upd m c 1 1 rfl (pay_upd' m e₁ e₂) ?_
  refine step_rs m c 1 1 rfl (by decide +kernel) rfl rfl ?_
  exact step_cw m c 2 rfl rfl crc3 H

theorem part13 {v2 v8 v19 : BitVec 32} {k : (Σ' (v372 : FVec F S64x2048 .f32), Vec F S64x2048 .f32) → Body F α} {Q : α → sProp 𝕄}
    (H : ∀ a b : Vec F S1x64x2048 .f32, shapeCast S64x2048 a shapeCasts_S1x64x2048_S64x2048 = R m 2 c 0 → shapeCast S64x2048 b shapeCasts_S1x64x2048_S64x2048 = PB m c 2 0 →
      (St m c 28 ⊢ run c (k ⟨k0_pay6 a b, RR m c 0⟩) Q)) :
    St m c 25 ⊢ run c (onDev (k0_part13 (F := F)) c v2 v8 v19 >>= k) Q := by
  rw [onDev, k0_part13_eq_skeleton]; unfold k0_part13_skel
  simp only [Prog.lift, Prog.bind_op, Prog.bind_ret, Prog.pure_eq_ret]
  refine step_cw m c 3 rfl rfl rfl ?_
  refine step_sw m c (.rs 1 0) rfl rfl cr3 ?_
  refine step_rw m c (.rs 1 0) rfl rfl cr3 ?_
  refine step_ld m c (.raw 2 0) (by decide) shapeCasts_S1x64x2048_S64x2048 rfl fun w₁ e₁ => ?_
  refine step_ld m c (.pb 2 0) (by decide) shapeCasts_S1x64x2048_S64x2048 rfl fun w₂ e₂ => ?_
  refine step_ld2 m c 0 (by decide) ?_
  exact H w₁ w₂ e₁ e₂

theorem part14 {v2 v8 v19 v42 v56 : BitVec 32} {w₁ w₂ : Vec F S1x64x2048 .f32} (e₁ : shapeCast S64x2048 w₁ shapeCasts_S1x64x2048_S64x2048 = R m 2 c 0)
    (e₂ : shapeCast S64x2048 w₂ shapeCasts_S1x64x2048_S64x2048 = PB m c 2 0) {k : (PUnit) → Body F α} {Q : α → sProp 𝕄}
    (H : St m c 30 ⊢ run c (k ⟨⟩) Q) :
    St m c 28 ⊢ run c (onDev (k0_part14 (F := F)) c v2 v8 v19 v42 v56 (k0_pay6 w₁ w₂) (RR m c 0) >>= k) Q := by
  rw [onDev, k0_part14_eq_skeleton]; unfold k0_part14_skel
  simp only [Prog.lift, Prog.bind_op, Prog.bind_ret, Prog.pure_eq_ret]
  refine step_ldg m c (by decide) ?_
  refine step_ld5 m c 0 (by decide) at5 fun _ => ?_
  refine step_own m c 0 rfl at5 (pay_own m e₁ e₂) ?_
  exact step_out m c (.ag 0 0) rfl rfl at6 (by decide +kernel) rfl rfl H

theorem part15 {v2 v5 v8 v32 v45 : BitVec 32} {k : (PUnit) → Body F α} {Q : α → sProp 𝕄}
    (H : St m c 32 ⊢ run c (k ⟨⟩) Q) :
    St m c 30 ⊢ run c (onDev (k0_part15 (F := F)) c v2 v5 v8 v32 v45 >>= k) Q := by
  rw [onDev, k0_part15_eq_skeleton]; unfold k0_part15_skel
  simp only [Prog.lift, Prog.bind_op, Prog.bind_ret, Prog.pure_eq_ret]
  refine step_out m c (.ex 0 0) rfl rfl at6 (by decide +kernel) rfl rfl ?_
  exact step_out m c (.ez 0 0) rfl rfl at6 (by decide +kernel) rfl rfl H

theorem part16 {v2 v8 v19 : BitVec 32} {k : (Σ' (v461 : FVec F S64x2048 .f32), FVec F S64x1 .f32) → Body F α} {Q : α → sProp 𝕄}
    (H : ∀ a b : Vec F S1x64x2048 .f32, shapeCast S64x2048 a shapeCasts_S1x64x2048_S64x2048 = R m 2 c 1 → shapeCast S64x2048 b shapeCasts_S1x64x2048_S64x2048 = PB m c 2 1 →
      (St m c 34 ⊢ run c (k ⟨k0_pay8 a b (RR m c 1), k0_pay9 a b (RR m c 1)⟩) Q)) :
    St m c 32 ⊢ run c (onDev (k0_part16 (F := F)) v2 v8 v19 >>= k) Q := by
  rw [onDev, k0_part16_eq_skeleton]; unfold k0_part16_skel
  simp only [Prog.lift, Prog.bind_op, Prog.bind_ret, Prog.pure_eq_ret]
  refine step_sw m c (.rs 1 1) rfl rfl cr3 ?_
  refine step_rw m c (.rs 1 1) rfl rfl cr3 ?_
  refine step_ld m c (.raw 2 1) (by decide) shapeCasts_S1x64x2048_S64x2048 rfl fun w₁ e₁ => ?_
  refine step_ld m c (.pb 2 1) (by decide) shapeCasts_S1x64x2048_S64x2048 rfl fun w₂ e₂ => ?_
  refine step_ld2 m c 1 (by decide) ?_
  exact H w₁ w₂ e₁ e₂

theorem part17 {v2 v5 v8 v19 v32 v42 v56 : BitVec 32} {w₁ w₂ : Vec F S1x64x2048 .f32} (e₁ : shapeCast S64x2048 w₁ shapeCasts_S1x64x2048_S64x2048 = R m 2 c 1)
    (e₂ : shapeCast S64x2048 w₂ shapeCasts_S1x64x2048_S64x2048 = PB m c 2 1) {k : (PUnit) → Body F α} {Q : α → sProp 𝕄}
    (H : St m c 36 ⊢ run c (k ⟨⟩) Q) :
    St m c 34 ⊢ run c (onDev (k0_part17 (F := F)) c v2 v5 v8 v19 v32 v42 v56 (k0_pay8 w₁ w₂ (RR m c 1)) (k0_pay9 w₁ w₂ (RR m c 1)) >>= k) Q := by
  rw [onDev, k0_part17_eq_skeleton]; unfold k0_part17_skel
  simp only [Prog.lift, Prog.bind_op, Prog.bind_ret, Prog.pure_eq_ret]
  refine step_ldg m c (by decide) ?_
  refine step_ld5 m c 1 (by decide) at7 fun _ => ?_
  refine step_own m c 1 rfl at7 (pay_own' m e₁ e₂) ?_
  exact step_out m c (.ag 0 1) rfl rfl at8 (by decide +kernel) rfl rfl H

theorem part18 {v2 v5 v45 : BitVec 32} {k : (PUnit) → Body F α} {Q : α → sProp 𝕄}
    (H : St m c 38 ⊢ run c (k ⟨⟩) Q) :
    St m c 36 ⊢ run c (onDev (k0_part18 (F := F)) c v2 v5 v45 >>= k) Q := by
  rw [onDev, k0_part18_eq_skeleton]; unfold k0_part18_skel
  simp only [Prog.lift, Prog.bind_op, Prog.bind_ret, Prog.pure_eq_ret]
  refine step_out m c (.ex 0 1) rfl rfl at8 (by decide +kernel) rfl rfl ?_
  exact step_out m c (.ez 0 1) rfl rfl at8 (by decide +kernel) rfl rfl H

end Cert.KernelIdeal.Hand
-- ==== Proof.WalkOut.lean ====
/-
# The run of one device, the exchange of the parts

The parts of the body in which the normalised parts go round the ring and across the other two axes.
-/
module

public import proofs.«01_k».proof.Proof.Walk

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}
variable {c : Dev nD}

theorem part19 {v2 v8 v19 : BitVec 32} {k : (PUnit) → Body F α} {Q : α → sProp 𝕄}
    (H : St m c 40 ⊢ run c (k ⟨⟩) Q) :
    St m c 38 ⊢ run c (onDev (k0_part19 (F := F)) c v2 v8 v19 >>= k) Q := by
  rw [onDev, k0_part19_eq_skeleton]; unfold k0_part19_skel
  simp only [Prog.lift, Prog.bind_op, Prog.bind_ret, Prog.pure_eq_ret]
  refine step_sw m c (.ag 0 0) rfl rfl cr5 ?_
  exact step_rw m c (.ag 0 0) rfl rfl cr5 H

theorem part20 {v2 v5 v8 v32 v45 : BitVec 32} {k : (PUnit) → Body F α} {Q : α → sProp 𝕄}
    (H : St m c 43 ⊢ run c (k ⟨⟩) Q) :
    St m c 40 ⊢ run c (onDev (k0_part20 (F := F)) c v2 v5 v8 v32 v45 >>= k) Q := by
  rw [onDev, k0_part20_eq_skeleton]; unfold k0_part20_skel
  simp only [Prog.lift, Prog.bind_op, Prog.bind_ret, Prog.pure_eq_ret]
  refine step_out m c (.ag 1 0) rfl rfl (at9 0) (by decide +kernel) rfl rfl ?_
  refine step_out m c (.ex 1 0) rfl rfl (at9 0) (by decide +kernel) rfl rfl ?_
  exact step_out m c (.ez 1 0) rfl rfl (at9 0) (by decide +kernel) rfl rfl H

theorem part21 {v2 v8 v19 : BitVec 32} {k : (PUnit) → Body F α} {Q : α → sProp 𝕄}
    (H : St m c 45 ⊢ run c (k ⟨⟩) Q) :
    St m c 43 ⊢ run c (onDev (k0_part21 (F := F)) c v2 v8 v19 >>= k) Q := by
  rw [onDev, k0_part21_eq_skeleton]; unfold k0_part21_skel
  simp only [Prog.lift, Prog.bind_op, Prog.bind_ret, Prog.pure_eq_ret]
  refine step_sw m c (.ag 0 1) rfl rfl cr5 ?_
  exact step_rw m c (.ag 0 1) rfl rfl cr5 H

theorem part22 {v2 v5 v8 v32 v45 : BitVec 32} {k : (PUnit) → Body F α} {Q : α → sProp 𝕄}
    (H : St m c 47 ⊢ run c (k ⟨⟩) Q) :
    St m c 45 ⊢ run c (onDev (k0_part22 (F := F)) c v2 v5 v8 v32 v45 >>= k) Q := by
  rw [onDev, k0_part22_eq_skeleton]; unfold k0_part22_skel
  simp only [Prog.lift, Prog.bind_op, Prog.bind_ret, Prog.pure_eq_ret]
  refine step_out m c (.ag 1 1) rfl rfl (at10 0) (by decide +kernel) rfl rfl ?_
  exact step_out m c (.ex 1 1) rfl rfl (at10 0) (by decide +kernel) rfl rfl H

theorem part23 {v2 v5 v8 v32 v45 : BitVec 32} {k : (PUnit) → Body F α} {Q : α → sProp 𝕄}
    (H : St m c 50 ⊢ run c (k ⟨⟩) Q) :
    St m c 47 ⊢ run c (onDev (k0_part23 (F := F)) c v2 v5 v8 v32 v45 >>= k) Q := by
  rw [onDev, k0_part23_eq_skeleton]; unfold k0_part23_skel
  simp only [Prog.lift, Prog.bind_op, Prog.bind_ret, Prog.pure_eq_ret]
  refine step_out m c (.ez 1 1) rfl rfl (at10 0) (by decide +kernel) rfl rfl ?_
  refine step_sw m c (.ex 0 0) rfl rfl cr5 ?_
  exact step_rw m c (.ex 0 0) rfl rfl cr5 H

theorem part24 {v2 v5 v32 v42 v45 : BitVec 32} {k : (BitVec 32) → Body F α} {Q : α → sProp 𝕄}
    (H : ∀ v707, St m c 53 ⊢ run c (k v707) Q) :
    St m c 50 ⊢ run c (onDev (k0_part24 (F := F)) c v2 v5 v32 v42 v45 >>= k) Q := by
  rw [onDev, k0_part24_eq_skeleton]; unfold k0_part24_skel
  simp only [Prog.lift, Prog.bind_op, Prog.bind_ret, Prog.pure_eq_ret]
  refine step_out m c (.fz 0) rfl rfl at11 (by decide +kernel) rfl rfl ?_
  refine step_sw m c (.ez 0 1) rfl rfl cr5 ?_
  refine step_rw m c (.ez 0 1) rfl rfl cr5 ?_
  exact H _

theorem part25 {v2 v5 v8 v707 : BitVec 32} {k : (Σ' (v737 : BitVec 32), BitVec 32) → Body F α} {Q : α → sProp 𝕄}
    (H : ∀ v737 c0_i32_687, St m c 55 ⊢ run c (k ⟨v737, c0_i32_687⟩) Q) :
    St m c 53 ⊢ run c (onDev (k0_part25 (F := F)) c v2 v5 v8 v707 >>= k) Q := by
  rw [onDev, k0_part25_eq_skeleton]; unfold k0_part25_skel
  simp only [Prog.lift, Prog.bind_op, Prog.bind_ret, Prog.pure_eq_ret]
  refine step_out m c (.fx 0) rfl rfl at12 (by decide +kernel) rfl rfl ?_
  refine step_sw m c (.ag 1 0) rfl rfl cr5 ?_
  exact H _ _

theorem part26 {v2 v5 v8 v19 v32 v737 c0_i32_687 : BitVec 32} {k : (PUnit) → Body F α} {Q : α → sProp 𝕄}
    (H : St m c 57 ⊢ run c (k ⟨⟩) Q) :
    St m c 55 ⊢ run c (onDev (k0_part26 (F := F)) c v2 v5 v8 v19 v32 v737 c0_i32_687 >>= k) Q := by
  rw [onDev, k0_part26_eq_skeleton]; unfold k0_part26_skel
  simp only [Prog.lift, Prog.bind_op, Prog.bind_ret, Prog.pure_eq_ret]
  refine step_rw m c (.ag 1 0) rfl rfl cr5 ?_
  exact step_out m c (.ag 2 0) rfl rfl (at9 1) (by decide +kernel) rfl rfl H

theorem part27 {v2 v5 v45 : BitVec 32} {k : (BitVec 32) → Body F α} {Q : α → sProp 𝕄}
    (H : ∀ c16_i32_743, St m c 60 ⊢ run c (k c16_i32_743) Q) :
    St m c 57 ⊢ run c (onDev (k0_part27 (F := F)) c v2 v5 v45 >>= k) Q := by
  rw [onDev, k0_part27_eq_skeleton]; unfold k0_part27_skel
  simp only [Prog.lift, Prog.bind_op, Prog.bind_ret, Prog.pure_eq_ret]
  refine step_out m c (.ex 2 0) rfl rfl (at9 1) (by decide +kernel) rfl rfl ?_
  refine step_out m c (.ez 2 0) rfl rfl (at9 1) (by decide +kernel) rfl rfl ?_
  refine step_sw m c (.ag 1 1) rfl rfl cr5 ?_
  exact H _

theorem part28 {v2 v5 v8 v19 v32 c16_i32_743 : BitVec 32} {k : (Σ' (v826 : BitVec 32), BitVec 32) → Body F α} {Q : α → sProp 𝕄}
    (H : ∀ v826 v827, St m c 62 ⊢ run c (k ⟨v826, v827⟩) Q) :
    St m c 60 ⊢ run c (onDev (k0_part28 (F := F)) c v2 v5 v8 v19 v32 c16_i32_743 >>= k) Q := by
  rw [onDev, k0_part28_eq_skeleton]; unfold k0_part28_skel
  simp only [Prog.lift, Prog.bind_op, Prog.bind_ret, Prog.pure_eq_ret]
  refine step_rw m c (.ag 1 1) rfl rfl cr5 ?_
  refine step_out m c (.ag 2 1) rfl rfl (at10 1) (by decide +kernel) rfl rfl ?_
  exact H _ _

theorem part29 {v2 v5 v45 v826 v827 : BitVec 32} {k : (PUnit) → Body F α} {Q : α → sProp 𝕄}
    (H : St m c 65 ⊢ run c (k ⟨⟩) Q) :
    St m c 62 ⊢ run c (onDev (k0_part29 (F := F)) c v2 v5 v45 v826 v827 >>= k) Q := by
  rw [onDev, k0_part29_eq_skeleton]; unfold k0_part29_skel
  simp only [Prog.lift, Prog.bind_op, Prog.bind_ret, Prog.pure_eq_ret]
  refine step_out m c (.ex 2 1) rfl rfl (at10 1) (by decide +kernel) rfl rfl ?_
  refine step_out m c (.ez 2 1) rfl rfl (at10 1) (by decide +kernel) rfl rfl ?_
  exact step_sw m c (.ex 1 0) rfl rfl cr5 H

theorem part30 {v2 v5 v8 v32 v45 : BitVec 32} {k : (PUnit) → Body F α} {Q : α → sProp 𝕄}
    (H : St m c 67 ⊢ run c (k ⟨⟩) Q) :
    St m c 65 ⊢ run c (onDev (k0_part30 (F := F)) c v2 v5 v8 v32 v45 >>= k) Q := by
  rw [onDev, k0_part30_eq_skeleton]; unfold k0_part30_skel
  simp only [Prog.lift, Prog.bind_op, Prog.bind_ret, Prog.pure_eq_ret]
  refine step_rw m c (.ex 1 0) rfl rfl cr5 ?_
  exact step_out m c (.fz 1) rfl rfl (at13 0) (by decide +kernel) rfl rfl H

theorem part31 {v2 v5 v8 v32 v42 v45 : BitVec 32} {k : (BitVec 32) → Body F α} {Q : α → sProp 𝕄}
    (H : ∀ c2_i32_854, St m c 70 ⊢ run c (k c2_i32_854) Q) :
    St m c 67 ⊢ run c (onDev (k0_part31 (F := F)) c v2 v5 v8 v32 v42 v45 >>= k) Q := by
  rw [onDev, k0_part31_eq_skeleton]; unfold k0_part31_skel
  simp only [Prog.lift, Prog.bind_op, Prog.bind_ret, Prog.pure_eq_ret]
  refine step_sw m c (.ez 1 1) rfl rfl cr5 ?_
  refine step_rw m c (.ez 1 1) rfl rfl cr5 ?_
  refine step_out m c (.fx 1) rfl rfl (at14 0) (by decide +kernel) rfl rfl ?_
  exact H _

theorem part32 {v2 v5 v8 v19 c2_i32_854 : BitVec 32} {k : (PUnit) → Body F α} {Q : α → sProp 𝕄}
    (H : St m c 72 ⊢ run c (k ⟨⟩) Q) :
    St m c 70 ⊢ run c (onDev (k0_part32 (F := F)) c v2 v5 v8 v19 c2_i32_854 >>= k) Q := by
  rw [onDev, k0_part32_eq_skeleton]; unfold k0_part32_skel
  simp only [Prog.lift, Prog.bind_op, Prog.bind_ret, Prog.pure_eq_ret]
  refine step_sw m c (.ag 2 0) rfl rfl cr5 ?_
  exact step_rw m c (.ag 2 0) rfl rfl cr5 H

theorem part33 {v2 v5 v8 v32 v45 : BitVec 32} {k : (PUnit) → Body F α} {Q : α → sProp 𝕄}
    (H : St m c 74 ⊢ run c (k ⟨⟩) Q) :
    St m c 72 ⊢ run c (onDev (k0_part33 (F := F)) c v2 v5 v8 v32 v45 >>= k) Q := by
  rw [onDev, k0_part33_eq_skeleton]; unfold k0_part33_skel
  simp only [Prog.lift, Prog.bind_op, Prog.bind_ret, Prog.pure_eq_ret]
  refine step_out m c (.ex 3 0) rfl rfl (at9 2) (by decide +kernel) rfl rfl ?_
  exact step_out m c (.ez 3 0) rfl rfl (at9 2) (by decide +kernel) rfl rfl H

theorem part34 {v2 v5 v8 v19 v32 : BitVec 32} {k : (PUnit) → Body F α} {Q : α → sProp 𝕄}
    (H : St m c 77 ⊢ run c (k ⟨⟩) Q) :
    St m c 74 ⊢ run c (onDev (k0_part34 (F := F)) c v2 v5 v8 v19 v32 >>= k) Q := by
  rw [onDev, k0_part34_eq_skeleton]; unfold k0_part34_skel
  simp only [Prog.lift, Prog.bind_op, Prog.bind_ret, Prog.pure_eq_ret]
  refine step_sw m c (.ag 2 1) rfl rfl cr5 ?_
  refine step_rw m c (.ag 2 1) rfl rfl cr5 ?_
  exact step_out m c (.ex 3 1) rfl rfl (at10 2) (by decide +kernel) rfl rfl H

theorem part35 {v2 v5 v8 v32 v45 : BitVec 32} {k : (PUnit) → Body F α} {Q : α → sProp 𝕄}
    (H : St m c 79 ⊢ run c (k ⟨⟩) Q) :
    St m c 77 ⊢ run c (onDev (k0_part35 (F := F)) c v2 v5 v8 v32 v45 >>= k) Q := by
  rw [onDev, k0_part35_eq_skeleton]; unfold k0_part35_skel
  simp only [Prog.lift, Prog.bind_op, Prog.bind_ret, Prog.pure_eq_ret]
  refine step_out m c (.ez 3 1) rfl rfl (at10 2) (by decide +kernel) rfl rfl ?_
  exact step_sw m c (.ex 2 0) rfl rfl cr5 H

theorem part36 {v2 v5 v45 : BitVec 32} {k : (Σ' (v1058 : BitVec 32), BitVec 32) → Body F α} {Q : α → sProp 𝕄}
    (H : ∀ v1058 c4_i32_999, St m c 82 ⊢ run c (k ⟨v1058, c4_i32_999⟩) Q) :
    St m c 79 ⊢ run c (onDev (k0_part36 (F := F)) c v2 v5 v45 >>= k) Q := by
  rw [onDev, k0_part36_eq_skeleton]; unfold k0_part36_skel
  simp only [Prog.lift, Prog.bind_op, Prog.bind_ret, Prog.pure_eq_ret]
  refine step_rw m c (.ex 2 0) rfl rfl cr5 ?_
  refine step_out m c (.fz 2) rfl rfl (at13 1) (by decide +kernel) rfl rfl ?_
  refine step_sw m c (.ez 2 1) rfl rfl cr5 ?_
  exact H _ _

theorem part37 {v5 v8 v32 v42 v45 v1058 c4_i32_999 : BitVec 32} {k : (PUnit) → Body F α} {Q : α → sProp 𝕄}
    (H : St m c 84 ⊢ run c (k ⟨⟩) Q) :
    St m c 82 ⊢ run c (onDev (k0_part37 (F := F)) c v5 v8 v32 v42 v45 v1058 c4_i32_999 >>= k) Q := by
  rw [onDev, k0_part37_eq_skeleton]; unfold k0_part37_skel
  simp only [Prog.lift, Prog.bind_op, Prog.bind_ret, Prog.pure_eq_ret]
  refine step_rw m c (.ez 2 1) rfl rfl cr5 ?_
  exact step_out m c (.fx 2) rfl rfl (at14 1) (by decide +kernel) rfl rfl H

theorem part38 {v2 v5 v8 v32 v45 : BitVec 32} {k : (PUnit) → Body F α} {Q : α → sProp 𝕄}
    (H : St m c 87 ⊢ run c (k ⟨⟩) Q) :
    St m c 84 ⊢ run c (onDev (k0_part38 (F := F)) c v2 v5 v8 v32 v45 >>= k) Q := by
  rw [onDev, k0_part38_eq_skeleton]; unfold k0_part38_skel
  simp only [Prog.lift, Prog.bind_op, Prog.bind_ret, Prog.pure_eq_ret]
  refine step_sw m c (.ex 3 0) rfl rfl cr5 ?_
  refine step_rw m c (.ex 3 0) rfl rfl cr5 ?_
  exact step_out m c (.fz 3) rfl rfl (at13 2) (by decide +kernel) rfl rfl H

theorem part39 {v2 v5 v8 v32 v42 v45 : BitVec 32} {k : (PUnit) → Body F α} {Q : α → sProp 𝕄}
    (H : St m c 89 ⊢ run c (k ⟨⟩) Q) :
    St m c 87 ⊢ run c (onDev (k0_part39 (F := F)) c v2 v5 v8 v32 v42 v45 >>= k) Q := by
  rw [onDev, k0_part39_eq_skeleton]; unfold k0_part39_skel
  simp only [Prog.lift, Prog.bind_op, Prog.bind_ret, Prog.pure_eq_ret]
  refine step_sw m c (.ez 3 1) rfl rfl cr5 ?_
  exact step_rw m c (.ez 3 1) rfl rfl cr5 H

theorem part40 {v5 v8 v32 : BitVec 32} {k : (PUnit) → Body F α} {Q : α → sProp 𝕄}
    (H : St m c 93 ⊢ run c (k ⟨⟩) Q) :
    St m c 89 ⊢ run c (onDev (k0_part40 (F := F)) c v5 v8 v32 >>= k) Q := by
  rw [onDev, k0_part40_eq_skeleton]; unfold k0_part40_skel
  simp only [Prog.lift, Prog.bind_op, Prog.bind_ret, Prog.pure_eq_ret]
  refine step_out m c (.fx 3) rfl rfl (at14 2) (by decide +kernel) rfl rfl ?_
  refine step_sw m c (.ex 0 1) rfl rfl cr5 ?_
  refine step_rw m c (.ex 0 1) rfl rfl cr5 ?_
  exact step_sw m c (.ez 0 0) rfl rfl cr5 H

theorem part41 {v2 v5 v8 v32 v45 : BitVec 32} {k : (PUnit) → Body F α} {Q : α → sProp 𝕄}
    (H : St m c 95 ⊢ run c (k ⟨⟩) Q) :
    St m c 93 ⊢ run c (onDev (k0_part41 (F := F)) c v2 v5 v8 v32 v45 >>= k) Q := by
  rw [onDev, k0_part41_eq_skeleton]; unfold k0_part41_skel
  simp only [Prog.lift, Prog.bind_op, Prog.bind_ret, Prog.pure_eq_ret]
  refine step_rw m c (.ez 0 0) rfl rfl cr5 ?_
  exact step_sw m c (.ex 1 1) rfl rfl cr5 H

theorem part42 {v2 v5 v45 : BitVec 32} {k : (PUnit) → Body F α} {Q : α → sProp 𝕄}
    (H : St m c 98 ⊢ run c (k ⟨⟩) Q) :
    St m c 95 ⊢ run c (onDev (k0_part42 (F := F)) c v2 v5 v45 >>= k) Q := by
  rw [onDev, k0_part42_eq_skeleton]; unfold k0_part42_skel
  simp only [Prog.lift, Prog.bind_op, Prog.bind_ret, Prog.pure_eq_ret]
  refine step_rw m c (.ex 1 1) rfl rfl cr5 ?_
  refine step_sw m c (.ez 1 0) rfl rfl cr5 ?_
  exact step_rw m c (.ez 1 0) rfl rfl cr5 H

theorem part43 {v2 v5 v8 v32 v45 : BitVec 32} {k : (PUnit) → Body F α} {Q : α → sProp 𝕄}
    (H : St m c 101 ⊢ run c (k ⟨⟩) Q) :
    St m c 98 ⊢ run c (onDev (k0_part43 (F := F)) c v2 v5 v8 v32 v45 >>= k) Q := by
  rw [onDev, k0_part43_eq_skeleton]; unfold k0_part43_skel
  simp only [Prog.lift, Prog.bind_op, Prog.bind_ret, Prog.pure_eq_ret]
  refine step_sw m c (.ex 2 1) rfl rfl cr5 ?_
  refine step_rw m c (.ex 2 1) rfl rfl cr5 ?_
  exact step_sw m c (.ez 2 0) rfl rfl cr5 H

theorem part44 {v5 v8 v32 : BitVec 32} {k : (PUnit) → Body F α} {Q : α → sProp 𝕄}
    (H : St m c 104 ⊢ run c (k ⟨⟩) Q) :
    St m c 101 ⊢ run c (onDev (k0_part44 (F := F)) c v5 v8 v32 >>= k) Q := by
  rw [onDev, k0_part44_eq_skeleton]; unfold k0_part44_skel
  simp only [Prog.lift, Prog.bind_op, Prog.bind_ret, Prog.pure_eq_ret]
  refine step_rw m c (.ez 2 0) rfl rfl cr5 ?_
  refine step_sw m c (.ex 3 1) rfl rfl cr5 ?_
  exact step_rw m c (.ex 3 1) rfl rfl cr5 H

theorem part45 {v2 v5 v45 : BitVec 32} {k : (Σ' (v1302 : BitVec 32), BitVec 32) → Body F α} {Q : α → sProp 𝕄}
    (H : ∀ v1302 v1303, St m c 107 ⊢ run c (k ⟨v1302, v1303⟩) Q) :
    St m c 104 ⊢ run c (onDev (k0_part45 (F := F)) c v2 v5 v45 >>= k) Q := by
  rw [onDev, k0_part45_eq_skeleton]; unfold k0_part45_skel
  simp only [Prog.lift, Prog.bind_op, Prog.bind_ret, Prog.pure_eq_ret]
  refine step_sw m c (.ez 3 0) rfl rfl cr5 ?_
  refine step_rw m c (.ez 3 0) rfl rfl cr5 ?_
  refine step_sw m c (.fz 0) rfl rfl cr5 ?_
  exact H _ _

theorem part46 {v5 v8 v32 v1302 v1303 : BitVec 32} {k : (PUnit) → Body F α} {Q : α → sProp 𝕄}
    (H : St m c 110 ⊢ run c (k ⟨⟩) Q) :
    St m c 107 ⊢ run c (onDev (k0_part46 (F := F)) c v5 v8 v32 v1302 v1303 >>= k) Q := by
  rw [onDev, k0_part46_eq_skeleton]; unfold k0_part46_skel
  simp only [Prog.lift, Prog.bind_op, Prog.bind_ret, Prog.pure_eq_ret]
  refine step_rw m c (.fz 0) rfl rfl cr5 ?_
  refine step_sw m c (.fx 0) rfl rfl cr5 ?_
  exact step_rw m c (.fx 0) rfl rfl cr5 H

theorem part47 {v2 v5 v32 v45 : BitVec 32} {k : (Σ' (v1354 : BitVec 32), BitVec 32) → Body F α} {Q : α → sProp 𝕄}
    (H : ∀ v1354 v1355, St m c 113 ⊢ run c (k ⟨v1354, v1355⟩) Q) :
    St m c 110 ⊢ run c (onDev (k0_part47 (F := F)) c v2 v5 v32 v45 >>= k) Q := by
  rw [onDev, k0_part47_eq_skeleton]; unfold k0_part47_skel
  simp only [Prog.lift, Prog.bind_op, Prog.bind_ret, Prog.pure_eq_ret]
  refine step_sw m c (.fz 1) rfl rfl cr5 ?_
  refine step_rw m c (.fz 1) rfl rfl cr5 ?_
  refine step_sw m c (.fx 1) rfl rfl cr5 ?_
  exact H _ _

theorem part48 {v2 v5 v8 v45 v1354 v1355 : BitVec 32} {k : (PUnit) → Body F α} {Q : α → sProp 𝕄}
    (H : St m c 116 ⊢ run c (k ⟨⟩) Q) :
    St m c 113 ⊢ run c (onDev (k0_part48 (F := F)) c v2 v5 v8 v45 v1354 v1355 >>= k) Q := by
  rw [onDev, k0_part48_eq_skeleton]; unfold k0_part48_skel
  simp only [Prog.lift, Prog.bind_op, Prog.bind_ret, Prog.pure_eq_ret]
  refine step_rw m c (.fx 1) rfl rfl cr5 ?_
  refine step_sw m c (.fz 2) rfl rfl cr5 ?_
  exact step_rw m c (.fz 2) rfl rfl cr5 H

theorem part49 {v2 v5 v8 v32 : BitVec 32} {k : (Σ' (v1407 : BitVec 32), BitVec 32) → Body F α} {Q : α → sProp 𝕄}
    (H : ∀ v1407 c0_i32_1393, St m c 119 ⊢ run c (k ⟨v1407, c0_i32_1393⟩) Q) :
    St m c 116 ⊢ run c (onDev (k0_part49 (F := F)) c v2 v5 v8 v32 >>= k) Q := by
  rw [onDev, k0_part49_eq_skeleton]; unfold k0_part49_skel
  simp only [Prog.lift, Prog.bind_op, Prog.bind_ret, Prog.pure_eq_ret]
  refine step_sw m c (.fx 2) rfl rfl cr5 ?_
  refine step_rw m c (.fx 2) rfl rfl cr5 ?_
  refine step_sw m c (.fz 3) rfl rfl cr5 ?_
  exact H _ _

end Cert.KernelIdeal.Hand
-- ==== Proof.BodyRun.lean ====
/-
# The run of one device, from the barrier to the end

The barrier, all parts in order, and the last waits.
-/
module

public import proofs.«01_k».proof.Proof.WalkOut

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

variable {c : Dev nD}

theorem part1 {k : (Σ' (d0 : Dev nD) (v2 : BitVec 32) (v5 : BitVec 32) (v8 : BitVec 32) (v19 : BitVec 32) (v31 : BitVec 32) (v32 : BitVec 32) (c2_i32_17 : BitVec 32) (v33 : BitVec 1), BitVec 32) → Body F α} {Q : α → sProp 𝕄} {A : sProp 𝕄}
    (H : ∀ v2 v5 v8 v19 v31 v32 c2_i32_17 v33 c1_i32_19, A ⊢ run c (k ⟨c, v2, v5, v8, v19, v31, v32, c2_i32_17, v33, c1_i32_19⟩) Q) :
    A ⊢ run c (onDev (k0_part1 (F := F)) >>= k) Q := by
  rw [onDev, k0_part1_eq_skeleton]; unfold k0_part1_skel
  simp only [Prog.lift, Prog.bind_op, Prog.bind_ret, Prog.pure_eq_ret, wp_deviceId]
  exact H _ _ _ _ _ _ _ _ _

theorem part2 {v2 v5 v8 v19 v31 c2_i32_17 c1_i32_19 : BitVec 32} {v33 : BitVec 1} {k : (Σ' (v42 : BitVec 32) (v45 : BitVec 32) (v56 : BitVec 32), Sems sig S_) → Body F α} {Q : α → sProp 𝕄}
    (H : ∀ v42 v45 v56, SB m c ((Finset.univ.erase 0).erase 1) ⊢ run c (k ⟨v42, v45, v56, SemArray.scalar (sig.barrier 0 rfl)⟩) Q) :
    SB m c Finset.univ ⊢ run c (onDev (k0_part2 (F := F)) c v2 v5 v8 v19 v31 c2_i32_17 v33 c1_i32_19 >>= k) Q := by
  rw [onDev, k0_part2_eq_skeleton]; unfold k0_part2_skel
  simp only [semSignalWord, Prog.lift, Prog.bind_op, Prog.bind_ret, Prog.pure_eq_ret]
  refine step_sig m c 0 _ (by decide) (by decide +kernel) rfl rfl ?_
  refine step_sig m c 1 _ (by decide) (by decide +kernel) rfl rfl ?_
  exact H _ _ _

theorem part3 {v2 v5 v8 v32 v45 : BitVec 32} {k : PUnit → Body F α} {Q : α → sProp 𝕄}
    (H : St m c 1 ⊢ run c (k ⟨⟩) Q) :
    SB m c ((Finset.univ.erase 0).erase 1) ⊢ run c (onDev (k0_part3 (F := F)) c v2 v5 v8 v32 v45 (SemArray.scalar (sig.barrier 0 rfl)) >>= k)
      (fun r => iprop(Q r ∗ semVal (bCell c) 0)) := by
  rw [onDev, k0_part3_eq_skeleton]; unfold k0_part3_skel
  simp only [semSignalWord, semWaitWord, Prog.lift, Prog.bind_op, Prog.bind_ret, Prog.pure_eq_ret]
  refine step_sig m c 2 _ (by decide) (by decide +kernel) rfl rfl ?_
  refine step_sig m c 3 _ (by decide) (by decide +kernel) rfl rfl ?_
  refine step_bar m c (by decide) rfl rfl ?_
  exact step_cp_p m c 0 rfl (at1 0) rfl H

/-- All parts in order. -/
theorem part50 {k : (Σ' (d0 : Dev nD) (v5 : BitVec 32) (v8 : BitVec 32), BitVec 32) → Body F α} {Q : α → sProp 𝕄}
    (H : ∀ v5 v8 v32, St m c 119 ⊢ run c (k ⟨c, v5, v8, v32⟩) Q) :
    SB m c Finset.univ ⊢ run c (onDev (k0_part50 (F := F)) >>= k) (fun r => iprop(Q r ∗ semVal (bCell c) 0)) := by
  rw [onDev, k0_part50_eq_skeleton]; unfold k0_part50_skel
  simp only [Prog.bind_assoc, Prog.bind_ret, Prog.pure_eq_ret]
  refine part1 fun _ _ _ _ _ _ _ _ _ => ?_
  refine part2 m fun _ _ _ => ?_
  refine part3 m ?_
  refine part4 m ?_
  refine part5 m ?_
  refine part6 m ?_
  refine part7 m ?_
  refine part8 m ?_
  refine part9 m ?_
  refine part10 m ?_
  refine part11 m fun w₁ e₁ => ?_
  refine part12 m e₁ ?_
  refine part13 m fun a b ea eb => ?_
  refine part14 m ea eb ?_
  refine part15 m ?_
  refine part16 m fun a b ea eb => ?_
  refine part17 m ea eb ?_
  refine part18 m ?_
  refine part19 m ?_
  refine part20 m ?_
  refine part21 m ?_
  refine part22 m ?_
  refine part23 m ?_
  refine part24 m fun _ => ?_
  refine part25 m fun _ _ => ?_
  refine part26 m ?_
  refine part27 m fun _ => ?_
  refine part28 m fun _ _ => ?_
  refine part29 m ?_
  refine part30 m ?_
  refine part31 m fun _ => ?_
  refine part32 m ?_
  refine part33 m ?_
  refine part34 m ?_
  refine part35 m ?_
  refine part36 m fun _ _ => ?_
  refine part37 m ?_
  refine part38 m ?_
  refine part39 m ?_
  refine part40 m ?_
  refine part41 m ?_
  refine part42 m ?_
  refine part43 m ?_
  refine part44 m ?_
  refine part45 m fun _ _ => ?_
  refine part46 m ?_
  refine part47 m fun _ _ => ?_
  refine part48 m ?_
  refine part49 m fun _ _ => ?_
  exact H _ _ _

/-- The whole body: from the state before the barrier to the state after the last step, with the barrier at rest. -/
theorem body_run : SB m c Finset.univ ⊢ run c (onDev (cc0_body (F := F))) (fun _ => iprop(St m c 122 ∗ semVal (bCell c) 0)) := by
  rw [onDev, cc0_body_eq_skeleton]; unfold cc0_body_skel
  simp only [Prog.lift, Prog.bind_op, Prog.bind_ret, Prog.pure_eq_ret]
  refine part50 m fun _ _ _ => ?_
  refine step_rw m c (.fz 3) rfl rfl cr5 ?_
  refine step_sw m c (.fx 3) rfl rfl cr5 ?_
  refine step_rw m c (.fx 3) rfl rfl cr5 ?_
  unfold run; rw [wp_ret]
  iintro H
  imodintro
  iexact H

end Cert.KernelIdeal.Hand
-- ==== Proof.Launch.lean ====
/-
# The launch

The body meets what the launch hands it and what the launch takes back, and so the whole mesh runs: it ends, the inputs are unchanged,
every counter is at zero, and the result array of a device holds `outF`.
-/
module

public import proofs.«01_k».proof.Proof.Setup
public import proofs.«01_k».proof.Proof.BodyRun
public import proofs.«01_k».proof.Proof.Gen.KernelIdeal.Points
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The machine at launch: any memory, every counter zero, any generator registers. -/
def s₀ : MemSt nD τ sig (Elt F) := ⟨m, fun _ => 0, ρ⟩

/-- What the body takes besides its windows and debts, -/
def Φ₀ (c : Dev nD) : sProp 𝕄 := iprop((ghost m c ∗ args m c) ∗ scr c)
/-- and what it gives back. -/
def Φ₁ (c : Dev nD) : sProp 𝕄 :=
  iprop((semVal (bCell c) 0 ∗ args m c) ∗ bigSep Finset.univ (fun i => semVal (cell c (osem i)) 0) ∗ scr c)

/-- The gain window keeps the gain; the result window ends holding `outF`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gA m c
    | ⟨1, _⟩ => outF m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  owns (c : Thread nD τ) (Memref.whole b) fullShare X

/-- A run's end may open the invariants once more. -/
theorem run_upd {α : Type} (c : Dev nD) (p : Prog (TpuEff nD τ sig (Elt F) Λ₀ .tc) α) {Q Q' : α → sProp 𝕄}
    (h : ∀ a, Q a ⊢ |={Set.univ}=> Q' a) : run c p Q ⊢ run c p Q' :=
  (wp_mono frame _ Set.univ h).trans (wp_fupd frame _ Set.univ p Q')

/-- What goes in beside the body's own comes out beside it, and the whole is regrouped on either side. -/
theorem run_around {α : Type} (c : Dev nD) (p : Prog (TpuEff nD τ sig (Elt F) Λ₀ .tc) α) {A B R D E : sProp 𝕄} (hp : B ⊢ run c p fun _ => D)
    (hA : A ⊢ iprop(B ∗ R)) (hE : iprop(D ∗ R) ⊢ |={Set.univ}=> E) : A ⊢ run c p fun _ => E :=
  (hA.trans ((sep_mono_left hp).trans (run_frame c p (fun _ => D) R))).trans (run_upd c p fun _ => hE)

/-- The body from what the launch hands it to what the launch takes back. -/
theorem body_whole (c : Dev nD) :
    (iprop(Φ₀ m c ∗ owns (c : Thread nD τ) gM fullShare (gA m c) ∗ (∃ W, owes (c : Thread nD τ) (owed₀ c) W)
        ∗ (∃ f : Buf (Elt F) ((c : Thread nD τ).loc cc0_stg1_0), (c : Thread nD τ).loc cc0_stg1_0 ↦{fullShare} f)) : sProp 𝕄)
      ⊢ run c (onDev (cc0_body (F := F))) (fun _ => iprop(Φ₁ m c ∗ owns (c : Thread nD τ) gM fullShare (gA m c)
          ∗ (∃ W, owes (c : Thread nD τ) 0 W)
          ∗ (c : Thread nD τ).loc cc0_stg1_0 ↦{fullShare} outF m c)) := by
  refine run_around c _ (body_run m (c := c)) (R := iprop(restP m c ∗ restR m c)) ?_ ?_
  · refine BIBase.Entails.trans ?_ (begins m c)
    unfold Φ₀
    iintro ⟨⟨⟨HG, HA⟩, HS⟩, Hg, HO, Hf⟩
    isplitl [HG]; · iexact HG
    isplitl [HA]; · iexact HA
    isplitl [HS]; · iexact HS
    isplitl [Hg]; · iexact Hg
    isplitl [HO] <;> iassumption
  · iintro H
    ihave H := (ends m c) $$ H
    imod H with H
    icases H with ⟨HA, HS, Hg, HO, Hf, Hs, Hb⟩
    imodintro
    unfold Φ₁
    isplitl [HA HS Hs Hb]
    · isplitl [HA Hb]
      · isplitl [Hb] <;> iassumption
      isplitl [Hs] <;> iassumption
    isplitl [Hg]; · iexact Hg
    isplitl [HO] <;> iassumption

theorem fetch_0 (t : Fin cfg0.N) : (cfg0.win (0 : Fin 2)).fetch t = true := fetch0_0 t

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (gA m c) ∗ stg c cc0_stg1_0 (outF m c))

theorem pre_whole (c : Dev nD) : bodyPre m ρ c
    ⊢ (iprop(Φ₀ m c ∗ owns (c : Thread nD τ) gM fullShare (gA m c) ∗ (∃ W, owes (c : Thread nD τ) (owed₀ c) W)
        ∗ (∃ f : Buf (Elt F) ((c : Thread nD τ).loc cc0_stg1_0), (c : Thread nD τ).loc cc0_stg1_0 ↦{fullShare} f)) : sProp 𝕄) := by
  unfold bodyPre
  iintro ⟨HΦ, Ho, ⟨%d0, Hx⟩, ⟨%d1, Hout⟩⟩
  have hb : (dats m ρ 0 c).before (0 : Fin 2) t0_0 d0 = gA m c := by
    unfold Dat.before; rw [if_pos (fetch_0 t0_0)]; rfl
  ihave Hx := (Entails.of_eq (congrArg (fun X => (stg c cc0_stg0_0 X : sProp 𝕄)) hb)) $$ Hx
  ihave Hout := (Entails.of_eq (owns_whole_eq (F := F) c cc0_stg1_0 _)) $$ Hout
  unfold Dat.owesAt Pipeline.owesWithin
  icases Ho with ⟨%W, %hW, HO⟩
  icases Hout with ⟨%f, %hf, Hout⟩
  isplitl [HΦ]; · iexact HΦ
  isplitl [Hx]; · iexact Hx
  isplitl [HO]
  · iexists W; iexact HO
  · iexists f; iexact Hout

theorem post_whole (c : Dev nD) :
    (iprop(Φ₁ m c ∗ owns (c : Thread nD τ) gM fullShare (gA m c) ∗ (∃ W, owes (c : Thread nD τ) 0 W)
          ∗ (c : Thread nD τ).loc cc0_stg1_0 ↦{fullShare} outF m c) : sProp 𝕄) ⊢ bodyPost m ρ c := by
  unfold bodyPost
  iintro ⟨HΦ, Hg, ⟨%W, HO⟩, Hf⟩
  isplitl [HΦ]; · iexact HΦ
  isplitl [HO]
  · unfold Dat.owesAt Pipeline.owesWithin
    iexists W
    isplitr; · (ipureintro; exact fun _ _ => Or.inl trivial)
    iexact HO
  isplitl [Hg]; · iexact Hg
  unfold stg
  rw [owns_whole_eq]
  iexists _
  isplitr; · (ipureintro; rfl)
  iexact Hf

theorem body_full (c : Dev nD) : bodyPre m ρ c ⊢ run c (onDev (cc0_body (F := F))) (fun _ => bodyPost m ρ c) :=
  ((pre_whole m ρ c).trans (body_whole m c)).trans (run_upd c _ fun _ => (post_whole m ρ c).trans fupd_intro)

set_option maxRecDepth 8000 in
/-- The body meets the launch's demand on every device. -/

theorem body_obligation (c : Dev nD) : BodyObligation (dats (F := F) m ρ 0 c) (defs₀ (F := F)) 𝒱₀ () Set.univ := fun t => by
  rw [fin_N0 t]
  rw [bigSep_W0, bigSep_W0]
  rw [show defs₀ (F := F) Proc.tc cfg0.body (cfg0.bodyArgs t0_0 (cfg0.slots t0_0)) = bodyAt0 t0_0 from rfl]
  rw [show bodyAt0 (F := F) t0_0 = onDev (cc0_body (F := F)) from rfl]
  have h := body_full m ρ c
  generalize onDev (cc0_body (F := F)) = p at h ⊢
  refine BIBase.Entails.trans ?_ (h.trans (run_upd c _ (fun _ => BIBase.Entails.trans ?_ fupd_intro)))
  · exact Entails.refl (bodyPre m ρ c)
  · exact Entails.refl (bodyPost m ρ c)

/-! ## The launch -/

theorem owed_pos {c : Dev nD} {g : GSem nD τ sig} {u : Unit} (h : 0 < owed₀ c g u) :
    (∃ t : T, g = rCell (dst t c) t) ∨ ∃ d, g = bCell (payee d c) := by
  by_contra hn
  push Not at hn
  refine absurd h (Nat.not_lt.mpr (le_of_eq ?_))
  unfold owed₀
  rw [O_zero, Pi.add_apply, Finsupp.add_apply, Finset.sum_apply, Finset.sum_apply, Finsupp.finset_sum_apply, Finsupp.finset_sum_apply]
  rw [Finset.sum_eq_zero fun t _ => by rw [tallyAt_ne_cell (hn.1 t)]; rfl, Finset.sum_eq_zero fun d _ => by rw [tallyAt_ne_cell (hn.2 d)]; rfl, Nat.add_zero]

/-- The staging cells' waits lie below everything a device owes. -/
theorem mayWait_stage (c : Dev nD) (q : DmaSem sig) (hq : role (.dma q) = .none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨t, rfl⟩ | ⟨d, rfl⟩ <;> exact Finset.mem_singleton_self _)
      (fun p hp => by rw [Finset.mem_singleton.mp hp]; exact (lv_dma c q).trans (by rw [hq]; rfl) |>.le)
      (fun g u hg => by
        rcases owed_pos hg with ⟨t, rfl⟩ | ⟨d, rfl⟩
        · rw [show lv (rCell (dst t c) t) u = lvR (role (.dma (rS t))) from lv_dma _ _, role_rS]
          exact Nat.lt_of_lt_of_le (by decide) (Nat.le_add_right 2 _)
        · dsimp only [lv]; rw [if_pos rfl]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The tokens of the cells of a device and of the payments it makes, in the body's order. -/
theorem ghost_of (c : Dev nD) :
    (iprop(levAts L lv ∗ (cred (tallyAt (bCell c) () 4) ∗ bigSep Finset.univ (fun t => cred (tallyAt (rCell c t) () NH))) ∗ armed m c) : sProp 𝕄) ⊢ ghost m c := by
  unfold armed payToks ghost ctx
  rw [option_sep (fun k => (atPos ER (kcell (c, k)) 0 ∅ 0 : sProp 𝕄))]
  have h : (bigSep Finset.univ (tok2 (F := F) c) : sProp 𝕄)
      = iprop(bigSep Finset.univ (fun t => dutyTok ER (sCell c t) 0 0) ∗ bigSep Finset.univ (fun t => dutyTok ER (rCell (dst t c) t) 0 0)) :=
    bigSep_sep' _ _ _
  rw [h]
  iintro ⟨#Hl, ⟨Hb4, Hr⟩, #HK, ⟨Hpb, Hp⟩, Htb, Hts, Htr, Htc⟩
  isplitr
  · isplitr; · iexact HK
    iexact Hl
  isplitl [Htb]; · iexact Htb
  isplitl [Hpb]; · iexact Hpb
  isplitl [Hb4]; · iexact Hb4
  isplitl [Hts Htr]; · isplitl [Hts] <;> iassumption
  isplitl [Hr]; · iexact Hr
  isplitl [Htc] <;> iassumption

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ armed m c)
      ⊢ |={Set.univ}=> (iprop((ghost m c ∗ args m c) ∗ emp) : sProp 𝕄) := by
  rw [Pipeline.unscopedRestP_none, unscopedRest0_eq]
  iintro ⟨HA, Hlev, Hcr, -, HG⟩
  ihave Hc := (creds (F := F) c) $$ Hcr
  ihave Hg := (ghost_of m c) $$ [Hlev Hc HG]
  · isplitl [Hlev]; · iexact Hlev
    isplitl [Hc] <;> iassumption
  imodintro
  isplitl
  · isplitl [Hg]; · iexact Hg
    unfold args pA rA
    iexact HA
  · iempintro

theorem phi0_intro (c : Dev nD) :
    iprop((ghost m c ∗ args m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scr
  exact Entails.refl _

theorem share_eq (c : Dev nD) (w : Fin cfg0.W) : (dats m ρ 0 c).share w = fullShare := by unfold Dat.share; split <;> rfl

/-- What the end of a run is read from, beside the windows' arrays: the two inputs and the counters. -/
theorem read_end (c : Dev nD) (s' : Phys nD τ sig (Elt F)) :
    (iprop((unscopedSems0 c ∗ args m c) ∗ emp ∗ SI s') : sProp 𝕄)
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') := by
  unfold args
  iintro ⟨⟨Hu, H0, H1⟩, -, HSI⟩
  ihave Hs := (Pipeline.unscopedSems0_read (X := (unscopedSems0 c : sProp 𝕄)) (c := c) fupd_intro s') $$ [Hu HSI]
  · isplitl [Hu] <;> iassumption
  imod Hs with ⟨%hs, HSI⟩
  ihave %h0 := (SI_pointsTo_agree) $$ [HSI H0]
  · isplitl [HSI] <;> iassumption
  ihave %h1 := (SI_pointsTo_agree) $$ [HSI H1]
  · isplitl [HSI] <;> iassumption
  imodintro
  isplitr
  · ipureintro
    exact ⟨hs, funext fun i => h0 i (Finset.mem_univ i), funext fun i => h1 i (Finset.mem_univ i)⟩
  · iexact HSI

/-! ## The run -/

/-- The result array ends at what the body leaves in its window: the window's one block is the whole array. -/
theorem flushed_eq (c : Dev nD) (t : Fin cfg0.N) :
    (dats m ρ 0 c).flushed (1 : Fin 2) t = ((cfg0.win (1 : Fin 2)).blk t).view.read (Elt F) (outF m c) := by
  obtain rfl := fin_N0 t
  funext i
  show outF m c i = outF m c (((cfg0.win (1 : Fin 2)).blk t0_0).view.emb i)
  congr 1
  funext a
  apply Fin.ext
  have e : ∀ a, win0_1.index t0_0 a * win0_1.size a = 0 := by decide
  show (i a : ℕ) = win0_1.index t0_0 a * win0_1.size a + 1 * (i a : ℕ)
  rw [e a, Nat.one_mul, Nat.zero_add]

theorem cover (i : S2x2x4x128x2048.Idx) : ∃ t : Fin cfg0.N, (cfg0.win (1 : Fin 2)).flush t = true ∧ i ∈ ((cfg0.win (1 : Fin 2)).blk t).view.set := by
  refine ⟨t0_0, flush0_1 _, ?_⟩
  show i ∈ ((View.whole main_v1).slice (win0_1.rect t0_0)).set
  rw [View.set_slice_whole, Rect.mem_set_unit]
  have e : ∀ a, win0_1.index t0_0 a * win0_1.size a = 0 := by decide
  have e' : ∀ a, win0_1.xsize (grid0.coords t0_0) a = S2x2x4x128x2048.size a := by decide
  intro a
  show win0_1.index t0_0 a * win0_1.size a ≤ (i a : ℕ) ∧ (i a : ℕ) < win0_1.index t0_0 a * win0_1.size a + win0_1.xsize (grid0.coords t0_0) a
  rw [e a, e' a, Nat.zero_add]
  exact ⟨Nat.zero_le _, (i a).isLt⟩

theorem end_out (c : Dev nD) : (dats m ρ 0 c).arrAt (1 : Fin 2) cfg0.N = outF m c :=
  (dats m ρ 0 c).arrAt_eq_of_cover (1 : Fin 2) (outF m c) (fun t _ => flushed_eq m ρ c t) cover

theorem end_gain (c : Dev nD) : (dats m ρ 0 c).arrAt (0 : Fin 2) cfg0.N = m ((c : Thread nD τ).loc main_arg2) :=
  (dats m ρ 0 c).arrAt_in (0 : Fin 2) rfl _

/-- The final memory: the result of a device is `outF`, its arguments are as at launch. -/
def Ends (r : PUnit × MemSt nD τ sig (Elt F)) : Prop :=
  ∀ c : Dev nD, r.2.mem ((c : Thread nD τ).loc main_v1) = outF m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option maxRecDepth 100000 in
/-- Every fair execution of the program on the 32 devices, from any memory with all counters at zero, ends without a fault, with the
    result `outF` on every device, the arguments unchanged and every counter at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _) (harr := arr_whole0)
    (hstage := stage_whole0) (hshare := share_eq m ρ)
    (hdistinct := winFacts0.arr_inj) (O₀ := owed₀) (howed₀ := fun _ => rfl) (howedN := fun _ => rfl)
    (L := L) (lv := lv) (hL := L_of_ne) (hwaits := waits m ρ) (G := dealt m) (G' := armed m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := arm m) (hA := fun _ _ => rfl) (hpf := fun _ k => k.elim0)
    (X := fun c => iprop(ghost m c ∗ args m c)) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := read_end m)
    (hQ := fun _ h hs => ⟨fun c => ⟨((h c).1 (1 : Fin 2)).trans (end_out m ρ c), (h c).2.2.2.1, (h c).2.2.2.2, ((h c).1 (0 : Fin 2)).trans (end_gain m ρ c)⟩,
      sem_eq_zero hs fun c => (h c).2.2.1⟩)

end Cert.KernelIdeal.Hand

end
-- ==== Proof.Spec.lean ====
/-
# The result's mathematics

A row of the sum over the four parts plus the residual, divided by the root of its mean square plus a small constant, times the gain.
-/
module

public import Idealize.ShloMosaic.Lib.Pointwise

@[expose] public section

noncomputable section

namespace Cert.Spec

open Idealize.ShloMosaic

/-- The whole array of the parts: the first dimension counts the part and the half of the rows. -/
abbrev SP : Shape := ⟨5, ![8, 2, 4, 128, 2048]⟩
/-- The residual and the result, and the gain. -/
abbrev SR : Shape := ⟨5, ![2, 2, 4, 128, 2048]⟩
abbrev SG : Shape := ⟨2, ![1, 2048]⟩

/-- The place of half `x` of part `k` in the first dimension. -/
def part (k : Fin 4) (x : Fin 2) : Fin 8 := ⟨2 * k.val + x.val, by omega⟩

/-- A row of the parts' sum plus the residual. -/
def rowSum (p : SP.Idx → EReal) (r : SR.Idx → EReal) (x z : Fin 2) (j : Fin 4) (a : Fin 128) (l : Fin 2048) : EReal :=
  (∑ k : Fin 4, p (ix5 (part k x) z j a l)) + r (ix5 x z j a l)

/-- A row over the root of its mean square (plus a small constant), times the gain. -/
def normed (y g : Fin 2048 → EReal) (l : Fin 2048) : EReal :=
  Ideal.div (y l) (Ideal.sqrt (Ideal.div (∑ k, y k * y k) (Ideal.ofBits .f32 0x45000000#32) + Ideal.ofBits .f32 0x358637BD#32)) * g l

/-- The result. -/
def result (p : SP.Idx → EReal) (r : SR.Idx → EReal) (g : SG.Idx → EReal) : SR.Idx → EReal := fun i =>
  normed (rowSum p r (i 0) (i 1) (i 2) (i 3)) (fun l => g (ix2 0 l)) (i 4)

end Cert.Spec

end
-- ==== Proof.RefValue.lean ====
/-
# What the reference computes

The reference's composed operations, read at an index, are the specification's result.
-/
module

public import proofs.«01_k».proof.Proof.Spec
public import proofs.«01_k».proof.Proof.Gen.ReferenceIdeal.Run
public import Idealize.ShloMosaic.Lib.IdealHost

@[expose] public section

noncomputable section

namespace Cert.ReferenceIdeal.Hand

open Idealize.ShloMosaic Idealize.ShloMosaic.TcCoe Idealize.SL.Sem
open Cert.ReferenceIdeal Cert.ReferenceIdeal.Gen Cert.Spec

/-- The sum of the parts plus the residual, as a square array. -/
def total (p : FVec Ideal S8x2x4x128x2048 .f32) (r : FVec Ideal S2x2x4x128x2048 .f32) : FVec Ideal S2048x2048 .f32 :=
  addf (Host.reduceAdd (shapeCast _ p shapeCasts_S8x2x4x128x2048_S4x2048x2048) (constant S_ .f32 0x00000000#32) reducesTo_S4x2048x2048_S2048x2048_d0 h_S_)
    (shapeCast _ r shapeCasts_S2x2x4x128x2048_S2048x2048)

/-- Its rows normalised and multiplied by the gain. -/
def scaled (y : FVec Ideal S2048x2048 .f32) (g : FVec Ideal S1x2048 .f32) : FVec Ideal S2048x2048 .f32 :=
  mulf (Host.divf y (broadcastInDim S2048x2048 ![0, 1] bcast_S2048x1_S2048x2048_0_1 (Host.sqrt (addf
      (Host.divf (broadcastInDim S2048x1 ![0] bcast_S2048_S2048x1_0 (Host.reduceAdd (mulf y y) (constant S_ .f32 0x00000000#32) reducesTo_S2048x2048_S2048_d1 h_S_))
        (broadcastInDim S2048x1 ![] bcast_S_S2048x1 (constant S_ .f32 0x45000000#32)))
      (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1 (shapeCast _ g shapeCasts_S1x2048_S2048)))

theorem gain_apply (g : FVec Ideal S1x2048 .f32) (l : Fin 2048) : shapeCast S2048 g shapeCasts_S1x2048_S2048 (ix1 l) = g (ix2 0 l) :=
  shapeCast_apply _ _ _ _ (by rw [Shape.rowMajor_val_two, Shape.rowMajor_val_one]; simp)

theorem scaled_apply (y : FVec Ideal S2048x2048 .f32) (g : FVec Ideal S1x2048 .f32) (a l : Fin 2048) :
    scaled y g (ix2 a l) = normed (fun k => y (ix2 a k)) (fun k => g (ix2 0 k)) l := by
  unfold scaled normed
  have hg := gain_apply g
  generalize shapeCast S2048 g shapeCasts_S1x2048_S2048 = g' at hg ⊢
  beta_reduce
  rw [← hg l]
  pointwise

/-- The row of the square array where a row of a chunk lies. -/
def rowAt (x z : Fin 2) (j : Fin 4) (a : Fin 128) : Fin 2048 := ⟨((x.val * 2 + z.val) * 4 + j.val) * 128 + a.val, by omega⟩

theorem total_apply (p : FVec Ideal S8x2x4x128x2048 .f32) (r : FVec Ideal S2x2x4x128x2048 .f32) (x z : Fin 2) (j : Fin 4) (a : Fin 128) (l : Fin 2048) :
    total p r (ix2 (rowAt x z j a) l) = rowSum p r x z j a l := by
  have hp : ∀ k : Fin 4, shapeCast S4x2048x2048 p shapeCasts_S8x2x4x128x2048_S4x2048x2048 (ix3 k (rowAt x z j a) l) = p (ix5 (part k x) z j a l) := fun k =>
    shapeCast_apply _ _ _ _ (by
      rw [Shape.rowMajor_val_five, Shape.rowMajor_val_three]
      show ((((2 * k.val + x.val) * 2 + z.val) * 4 + j.val) * 128 + a.val) * 2048 + l.val
        = (k.val * 2048 + (((x.val * 2 + z.val) * 4 + j.val) * 128 + a.val)) * 2048 + l.val
      omega)
  have hr : shapeCast S2048x2048 r shapeCasts_S2x2x4x128x2048_S2048x2048 (ix2 (rowAt x z j a) l) = r (ix5 x z j a l) :=
    shapeCast_apply _ _ _ _ (by
      rw [Shape.rowMajor_val_five, Shape.rowMajor_val_two]
      rfl)
  unfold total rowSum
  rw [← hr, ← Finset.sum_congr rfl fun k _ => hp k]
  generalize shapeCast S4x2048x2048 p shapeCasts_S8x2x4x128x2048_S4x2048x2048 = p'
  generalize shapeCast S2048x2048 r shapeCasts_S2x2x4x128x2048_S2048x2048 = r'
  pointwise

theorem result_apply (p : FVec Ideal S8x2x4x128x2048 .f32) (r : FVec Ideal S2x2x4x128x2048 .f32) (g : FVec Ideal S1x2048 .f32) :
    shapeCast S2x2x4x128x2048 (scaled (total p r) g) shapeCasts_S2048x2048_S2x2x4x128x2048 = result p r g := by
  funext i
  have h : shapeCast S2x2x4x128x2048 (scaled (total p r) g) shapeCasts_S2048x2048_S2x2x4x128x2048 i
      = scaled (total p r) g (ix2 (rowAt (i 0) (i 1) (i 2) (i 3)) (i 4)) :=
    shapeCast_apply _ _ _ _ (by
      rw [Shape.rowMajor_val_five, Shape.rowMajor_val_two]
      rfl)
  refine h.trans ((scaled_apply _ _ _ _).trans ?_)
  unfold result
  congr 1
  funext l
  exact total_apply p r _ _ _ _ l

/-- The reference ends with the specification's result of its arguments, which are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result_apply _ _ _), (h c).2⟩) (Cert.ReferenceIdeal.Value.run (F := Ideal) m ρ)

end Cert.ReferenceIdeal.Hand

end
-- ==== Proof.Value.lean ====
/-
# What the kernel computes

When the devices hold their blocks of the parts and equal residuals and gains, the contents the kernel leaves in its
result are the specification's result.
-/
module

public import proofs.«01_k».proof.Proof.Spec
public import proofs.«01_k».proof.Proof.Pieces
public import Idealize.ShloMosaic.Lib.IdealHost

@[expose] public section

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ)

/-- The row normalisation of a half chunk, at an index. -/
theorem lnB_apply (x : FVec Ideal S64x2048 .f32) (g : Vec Ideal S1x2048 .f32) (a : Fin 64) (l : Fin 2048) :
    lnB x g (ix2 a l) = normed (fun k => x (ix2 a k)) (fun k => g (ix2 0 k)) l := by
  unfold lnB normed
  beta_reduce
  pointwise

/-- The gain's block is the gain. -/
theorem gA_eq (c : Dev nD) : gA m c = m ((c : Thread nD τ).loc main_arg2) := by
  funext i
  refine congrArg (m ((c : Thread nD τ).loc main_arg2)) (funext fun a => Fin.ext ?_)
  have e : ∀ a, win0_0.index (0 : Fin 1) a * win0_0.size a = 0 := by decide
  show win0_0.index (0 : Fin 1) a * win0_0.size a + 1 * (i a).val = (i a).val
  rw [e, Nat.zero_add, Nat.one_mul]

/-! ## The ring sum -/

/-- The ring keeps the first coordinate and the group, and steps the second. -/
theorem left_coords : ∀ c, cx (left c) = cx c ∧ zg (left c) = zg c ∧ cy (left c) = cy c - 1 := by decide +kernel

/-- Four terms taken round the ring from any start are the sum over all four. -/
theorem ring_sum (f : Fin 4 → EReal) (y : Fin 4) : f (y - 1 - 1 - 1) + f (y - 1 - 1) + f (y - 1) + f y = ∑ k, f k := by
  rw [Fin.sum_univ_four]
  fin_cases y
  · show f 1 + f 2 + f 3 + f 0 = _
    abel
  · show f 2 + f 3 + f 0 + f 1 = _
    abel
  · show f 3 + f 0 + f 1 + f 2 = _
    abel
  · rfl

variable {p : SP.Idx → EReal} {r : SR.Idx → EReal} {g : SG.Idx → EReal}
  (hp : ∀ c x z j a l, pA m c (ix5 x z j a l) = p (ix5 (part (cy c) x) z j a l))
  (hr : ∀ c, rA m c = r) (hg : ∀ c : Dev nD, m ((c : Thread nD τ).loc main_arg2) = g)

include hp in
theorem P_apply (c : Dev nD) (j : Fin 4) (h : Fin 2) (a : Fin 64) (l : Fin 2048) :
    P m c j h (ix2 a l) = p (ix5 (part (cy c) (cx c)) (zg c) j (rowOf h a) l) := by
  unfold P
  rw [read_slot5]
  exact hp c _ _ _ _ _

theorem chunk_of : ∀ y : Fin 4, y - 1 - 1 - 1 = y + 1 ∧ y - 1 - 1 - Fin.ofNat 4 1 = y + 1 ∧ y + 1 - Fin.ofNat 4 0 = y + 1 ∧ y - 1 - Fin.ofNat 4 2 = y + 1 := by
  decide

include hp in
/-- The finished ring sum is the sum over the four parts. -/
theorem ring_apply (c : Dev nD) (h : Fin 2) (a : Fin 64) (l : Fin 2048) :
    addf (R m 2 c h) (PB m c 2 h) (ix2 a l) = ∑ k : Fin 4, p (ix5 (part k (cx c)) (zg c) (cy c + 1) (rowOf h a) l) := by
  show R m 0 (left (left c)) h (ix2 a l) + PB m (left (left c)) 0 h (ix2 a l) + PB m (left c) 1 h (ix2 a l) + PB m c 2 h (ix2 a l) = _
  have e1 := left_coords c
  have e2 := left_coords (left c)
  have e3 := left_coords (left (left c))
  have h0 : R m 0 (left (left c)) h = P m (left (left (left c))) (cy (left (left (left c)))) h := rfl
  rw [h0]
  unfold PB
  simp only [P_apply m hp, e3.1, e2.1, e1.1, e3.2.1, e2.2.1, e1.2.1, e3.2.2, e2.2.2, e1.2.2]
  obtain ⟨c0, c1, c2, c3⟩ := chunk_of (cy c)
  rw [c0, c1, c2, c3, ← c0]
  exact ring_sum (fun k => p (ix5 (part k (cx c)) (zg c) (cy c - 1 - 1 - 1) (rowOf h a) l)) (cy c)

include hr in
theorem RR_apply (c : Dev nD) (h : Fin 2) (a : Fin 64) (l : Fin 2048) :
    RR m c h (ix2 a l) = r (ix5 (cx c) (zg c) (cy c + 1) (rowOf h a) l) := by
  unfold RR
  rw [read_slot5, hr]
  rfl

include hp hr hg in
/-- A half chunk a device finishes, at an index. -/
theorem Own_apply (c : Dev nD) (h : Fin 2) (a : Fin 64) (l : Fin 2048) :
    Own m c h (ix2 a l) = normed (rowSum p r (cx c) (zg c) (cy c + 1) (rowOf h a)) (fun k => g (ix2 0 k)) l := by
  unfold Own
  rw [lnB_apply, gA_eq, hg]
  congr 1
  funext k
  show addf (R m 2 c h) (PB m c 2 h) (ix2 a k) + RR m c h (ix2 a k) = _
  rw [ring_apply m hp, RR_apply m hr]
  rfl

/-- The device that finished a half chunk has the coordinates the half chunk lies at. -/
theorem origin_coords : ∀ (c : Dev nD) (x z : Fin 2) (j : Fin 4) (h : Fin 2),
    cx (origin c ⟨x - cx c, z - zg c, cy c + 1 - j, h⟩) = x ∧ zg (origin c ⟨x - cx c, z - zg c, cy c + 1 - j, h⟩) = z
      ∧ cy (origin c ⟨x - cx c, z - zg c, cy c + 1 - j, h⟩) + 1 = j := by
  decide +kernel

include hp hr hg in
/-- The kernel's result is the specification's. -/
theorem outF_eq (c : Dev nD) : outF m c = result p r g := by
  funext i
  show Own m (origin c (relAt c i)) (relAt c i).h (inSlot i) = _
  unfold inSlot
  obtain ⟨ex, ez, ej⟩ := origin_coords c (dim0 i) (dim1 i) (dim2 i) (relAt c i).h
  refine (Own_apply m hp hr hg _ _ _ _).trans ?_
  have ea : rowOf (relAt c i).h ⟨(i 3).val % 64, Nat.mod_lt _ (by decide)⟩ = i 3 := Fin.ext (Nat.div_add_mod (i 3).val 64)
  rw [ea]
  unfold relAt at ex ez ej ⊢
  rw [ex, ez, ej]
  rfl

end Cert.KernelIdeal.Hand

end
-- ==== Proof.lean ====
/-
# The claims

The witnesses of the programs' stated facts, the frames of the three programs, the value claim, and the theorem that
puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem

/-- The ideal program on the 32 devices ends without a fault, its arguments unchanged and every counter at zero. -/
theorem frame_kernelIdeal : Cert.quiescent_KernelIdeal := fun m ρ _ =>
  (θ_run Cert.KernelIdeal.defs _ _).mono (fun _ h => ⟨fun c => (h.1 c).2, h.2⟩) (Cert.KernelIdeal.Hand.run_main (F := Ideal) m ρ)

set_option maxRecDepth 100000 in
/-- The two programs' bodies are one text, at any floats. -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

set_option maxRecDepth 100000 in
theorem defs_eq : Cert.Kernel.defs (F := Bits) = Cert.KernelIdeal.defs (F := Bits) :=
  congrArg (Pipeline.defs (Cert.KernelIdeal.pcfgs (F := Bits))) defs₀_eq

set_option maxRecDepth 100000 in
/-- So does the program at the machine's own floats. -/
theorem frame_kernel : Cert.quiescent_Kernel := fun m ρ _ => by
  have h := (θ_run Cert.KernelIdeal.defs _ _).mono (fun _ h => (⟨fun c => (h.1 c).2, h.2⟩ : _ ∧ _)) (Cert.KernelIdeal.Hand.run_main (F := Bits) m ρ)
  rw [← defs_eq] at h
  exact h

/-- So does the reference on its one device. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The block of the parts that a device holds: its entries are the whole array's, in the half rows of its place on the ring. -/
theorem parts_apply (p : Cert.Spec.SP.Idx → EReal) (c : Dev Cert.KernelIdeal.nD) (x z : Fin 2) (j : Fin 4) (a : Fin 128) (l : Fin 2048) :
    (Layout.blockN ⟨5, ![2, 2, 4, 128, 2048]⟩ ⟨5, ![8, 2, 4, 128, 2048]⟩ (Layout.meshBlock [2, 4, 4] ![[1], [], [], [], []] c) p : Cert.Spec.SR.Idx → EReal) (ix5 x z j a l)
      = p (ix5 (Cert.Spec.part (Cert.KernelIdeal.Hand.cy c) x) z j a l) := by
  rw [Layout.blockN_apply]
  congr 1
  funext b
  apply Fin.ext
  have e : ∀ c : Dev Cert.KernelIdeal.nD, (Layout.meshLin [2, 4, 4] c.val [1] : ℕ) = (Cert.KernelIdeal.Hand.cy c).val := by decide +kernel
  have e' : ∀ c : Dev Cert.KernelIdeal.nD, (Layout.meshLin [2, 4, 4] c.val [] : ℕ) = 0 := by decide +kernel
  fin_cases b
  · show Layout.meshLin [2, 4, 4] c.val [1] * 2 + x.val = 2 * (Cert.KernelIdeal.Hand.cy c).val + x.val
    rw [e, Nat.mul_comm]
  · show Layout.meshLin [2, 4, 4] c.val [] * 2 + z.val = z.val
    rw [e', Nat.zero_mul, Nat.zero_add]
  · show Layout.meshLin [2, 4, 4] c.val [] * 4 + j.val = j.val
    rw [e', Nat.zero_mul, Nat.zero_add]
  · show Layout.meshLin [2, 4, 4] c.val [] * 128 + a.val = a.val
    rw [e', Nat.zero_mul, Nat.zero_add]
  · show Layout.meshLin [2, 4, 4] c.val [] * 2048 + l.val = l.val
    rw [e', Nat.zero_mul, Nat.zero_add]

/-- Over the extended reals every device's result is the reference's: both are the specification's. -/
theorem value : Cert.algebraic_KernelIdeal_ReferenceIdeal := fun m ρ m' ρ' _ h => by
  refine ⟨Cert.Spec.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r e c => ⟨(e.1 c).1.trans ?_, (e.1 c).2⟩) (Cert.KernelIdeal.Hand.run_main (F := Ideal) m ρ)
    refine Cert.KernelIdeal.Hand.outF_eq m (fun d x z j a l => ?_) (fun d => (h d).2.1) (fun d => (h d).2.2) c
    exact (congrFun (h d).1 _).trans (parts_apply _ d x z j a l)
  · exact (θ_run Cert.ReferenceIdeal.defs _ _).mono (fun r e => e 0) (Cert.ReferenceIdeal.Hand.ref_run m' ρ')

theorem claim : Cert.Claim :=
  ⟨Cert.Kernel.Gen.facts, Cert.KernelIdeal.Gen.facts, Cert.ReferenceIdeal.Gen.facts, frame_kernel, frame_kernelIdeal, frame_referenceIdeal, trivial, value⟩

end Cert.Proof

end
